-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "loss_scale" .f32 0x3550FAC7#32 ((5 / 6422528 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1x224x224 : Shape := ⟨4, ![16, 1, 224, 224]⟩
abbrev S64x1x4x4 : Shape := ⟨4, ![64, 1, 4, 4]⟩
abbrev S64 : Shape := ⟨1, ![64]⟩
abbrev S32x64x4x4 : Shape := ⟨4, ![32, 64, 4, 4]⟩
abbrev S32 : Shape := ⟨1, ![32]⟩
abbrev S1024x32 : Shape := ⟨2, ![1024, 32]⟩
abbrev S64x32x4x4 : Shape := ⟨4, ![64, 32, 4, 4]⟩
abbrev S1x64x4x4 : Shape := ⟨4, ![1, 64, 4, 4]⟩
abbrev S1 : Shape := ⟨1, ![1]⟩
abbrev S16x224x224 : Shape := ⟨3, ![16, 224, 224]⟩
abbrev S_ : Shape := ⟨0, ![]⟩
abbrev S16x226x226 : Shape := ⟨3, ![16, 226, 226]⟩
abbrev S16x112x112 : Shape := ⟨3, ![16, 112, 112]⟩
abbrev S16x112x112x1 : Shape := ⟨4, ![16, 112, 112, 1]⟩
abbrev S16x112x112x16 : Shape := ⟨4, ![16, 112, 112, 16]⟩
abbrev S16x12544x16 : Shape := ⟨3, ![16, 12544, 16]⟩
abbrev S64x4x4 : Shape := ⟨3, ![64, 4, 4]⟩
abbrev S64x16 : Shape := ⟨2, ![64, 16]⟩
abbrev S16x64 : Shape := ⟨2, ![16, 64]⟩
abbrev S4x4x64x32 : Shape := ⟨4, ![4, 4, 64, 32]⟩
abbrev S16x64x32 : Shape := ⟨3, ![16, 64, 32]⟩
abbrev S1x64 : Shape := ⟨2, ![1, 64]⟩
abbrev S1x32 : Shape := ⟨2, ![1, 32]⟩
abbrev S16x3136x32 : Shape := ⟨3, ![16, 3136, 32]⟩
abbrev S1x12544x16 : Shape := ⟨3, ![1, 12544, 16]⟩
abbrev S1x3136x32 : Shape := ⟨3, ![1, 3136, 32]⟩
abbrev S114x114x64 : Shape := ⟨3, ![114, 114, 64]⟩
abbrev S1x114x64 : Shape := ⟨3, ![1, 114, 64]⟩
abbrev S114x1x64 : Shape := ⟨3, ![114, 1, 64]⟩
abbrev S1x1568x16 : Shape := ⟨3, ![1, 1568, 16]⟩
abbrev S1568x16 : Shape := ⟨2, ![1568, 16]⟩
abbrev S1568x64 : Shape := ⟨2, ![1568, 64]⟩
abbrev S14x112x64 : Shape := ⟨3, ![14, 112, 64]⟩
abbrev S784x32 : Shape := ⟨2, ![784, 32]⟩
abbrev S14x56x64 : Shape := ⟨3, ![14, 56, 64]⟩
abbrev S784x64 : Shape := ⟨2, ![784, 64]⟩
abbrev S1x64x32 : Shape := ⟨3, ![1, 64, 32]⟩
abbrev S64x32 : Shape := ⟨2, ![64, 32]⟩
abbrev S1x784x32 : Shape := ⟨3, ![1, 784, 32]⟩
abbrev S50176x32 : Shape := ⟨2, ![50176, 32]⟩
abbrev S98x1x512 : Shape := ⟨3, ![98, 1, 512]⟩
abbrev S1x1 : Shape := ⟨2, ![1, 1]⟩
abbrev S512x32 : Shape := ⟨2, ![512, 32]⟩
abbrev S1x1x512 : Shape := ⟨3, ![1, 1, 512]⟩
abbrev S512 : Shape := ⟨1, ![512]⟩
abbrev S512x1 : Shape := ⟨2, ![512, 1]⟩
abbrev S1024 : Shape := ⟨1, ![1024]⟩
abbrev S512x1024 : Shape := ⟨2, ![512, 1024]⟩
abbrev S1x1024 : Shape := ⟨2, ![1, 1024]⟩
abbrev S1x512x32 : Shape := ⟨3, ![1, 512, 32]⟩
abbrev S1x1x1 : Shape := ⟨3, ![1, 1, 1]⟩
abbrev S16x56x56 : Shape := ⟨3, ![16, 56, 56]⟩
abbrev S16x56x56x32 : Shape := ⟨4, ![16, 56, 56, 32]⟩
abbrev S16x58x58x32 : Shape := ⟨4, ![16, 58, 58, 32]⟩
abbrev S4x4x32x64 : Shape := ⟨4, ![4, 4, 32, 64]⟩
abbrev S1x64x1x1 : Shape := ⟨4, ![1, 64, 1, 1]⟩
abbrev S64x1 : Shape := ⟨2, ![64, 1]⟩
abbrev S64x4 : Shape := ⟨2, ![64, 4]⟩
abbrev S1x64x4 : Shape := ⟨3, ![1, 64, 4]⟩
abbrev S3x64x4 : Shape := ⟨3, ![3, 64, 4]⟩
abbrev S1x3x64x4 : Shape := ⟨4, ![1, 3, 64, 4]⟩
abbrev S3x3x64x4 : Shape := ⟨4, ![3, 3, 64, 4]⟩
abbrev S16x12544x4 : Shape := ⟨3, ![16, 12544, 4]⟩
abbrev S1x58x58x32 : Shape := ⟨4, ![1, 58, 58, 32]⟩
abbrev S1x12544x4 : Shape := ⟨3, ![1, 12544, 4]⟩
abbrev S1x14x56x32 : Shape := ⟨4, ![1, 14, 56, 32]⟩
abbrev S14x56x32 : Shape := ⟨3, ![14, 56, 32]⟩
abbrev S1x1x32x64 : Shape := ⟨4, ![1, 1, 32, 64]⟩
abbrev S32x64 : Shape := ⟨2, ![32, 64]⟩
abbrev S3136x4 : Shape := ⟨2, ![3136, 4]⟩
abbrev S28x112x64 : Shape := ⟨3, ![28, 112, 64]⟩
abbrev S3136x64 : Shape := ⟨2, ![3136, 64]⟩
abbrev S1x1x64x4 : Shape := ⟨4, ![1, 1, 64, 4]⟩
abbrev S1x3136x4 : Shape := ⟨3, ![1, 3136, 4]⟩
abbrev S16x112x112x2x2 : Shape := ⟨5, ![16, 112, 112, 2, 2]⟩
abbrev S16x112x2x112x2 : Shape := ⟨5, ![16, 112, 2, 112, 2]⟩

abbrev nBuf : Space → Nat
  | .hbm => 169
  | .vmem => 25
  | .smem => 1
  | _ => 0

abbrev hbmTy0_0 (i : Nat) : BufTy := match i % 128 with
  | 0 => ⟨S16x1x224x224, .f32⟩
  | 1 => ⟨S64x1x4x4, .f32⟩
  | 2 => ⟨S64, .f32⟩
  | 3 => ⟨S32x64x4x4, .f32⟩
  | 4 => ⟨S32, .f32⟩
  | 5 => ⟨S1024x32, .f32⟩
  | 6 => ⟨S64x32x4x4, .f32⟩
  | 7 => ⟨S64, .f32⟩
  | 8 => ⟨S1x64x4x4, .f32⟩
  | 9 => ⟨S1, .f32⟩
  | 10 => ⟨S16x224x224, .f32⟩
  | 11 => ⟨S_, .i32⟩
  | 12 => ⟨S_, .f32⟩
  | 13 => ⟨S16x226x226, .f32⟩
  | 14 => ⟨S16x112x112, .f32⟩
  | 15 => ⟨S16x112x112, .f32⟩
  | 16 => ⟨S16x112x112, .f32⟩
  | 17 => ⟨S16x112x112, .f32⟩
  | 18 => ⟨S16x112x112, .f32⟩
  | 19 => ⟨S16x112x112, .f32⟩
  | 20 => ⟨S16x112x112, .f32⟩
  | 21 => ⟨S16x112x112, .f32⟩
  | 22 => ⟨S16x112x112, .f32⟩
  | 23 => ⟨S16x112x112, .f32⟩
  | 24 => ⟨S16x112x112, .f32⟩
  | 25 => ⟨S16x112x112, .f32⟩
  | 26 => ⟨S16x112x112, .f32⟩
  | 27 => ⟨S16x112x112, .f32⟩
  | 28 => ⟨S16x112x112, .f32⟩
  | 29 => ⟨S16x112x112, .f32⟩
  | 30 => ⟨S16x112x112x1, .f32⟩
  | 31 => ⟨S16x112x112x1, .f32⟩
  | 32 => ⟨S16x112x112x1, .f32⟩
  | 33 => ⟨S16x112x112x1, .f32⟩
  | 34 => ⟨S16x112x112x1, .f32⟩
  | 35 => ⟨S16x112x112x1, .f32⟩
  | 36 => ⟨S16x112x112x1, .f32⟩
  | 37 => ⟨S16x112x112x1, .f32⟩
  | 38 => ⟨S16x112x112x1, .f32⟩
  | 39 => ⟨S16x112x112x1, .f32⟩
  | 40 => ⟨S16x112x112x1, .f32⟩
  | 41 => ⟨S16x112x112x1, .f32⟩
  | 42 => ⟨S16x112x112x1, .f32⟩
  | 43 => ⟨S16x112x112x1, .f32⟩
  | 44 => ⟨S16x112x112x1, .f32⟩
  | 45 => ⟨S16x112x112x1, .f32⟩
  | 46 => ⟨S16x112x112x16, .f32⟩
  | 47 => ⟨S16x12544x16, .f32⟩
  | 48 => ⟨S64x4x4, .f32⟩
  | 49 => ⟨S64x16, .f32⟩
  | 50 => ⟨S16x64, .f32⟩
  | 51 => ⟨S4x4x64x32, .f32⟩
  | 52 => ⟨S16x64x32, .f32⟩
  | 53 => ⟨S1x64, .f32⟩
  | 54 => ⟨S1x32, .f32⟩
  | 55 => ⟨S16x3136x32, .f32⟩
  | 56 => ⟨S50176x32, .f32⟩
  | 57 => ⟨S50176x32, .f32⟩
  | 58 => ⟨S98x1x512, .i32⟩
  | 59 => ⟨S1x1, .f32⟩
  | 60 => ⟨S16x56x56, .i32⟩
  | 61 => ⟨S_, .f32⟩
  | 62 => ⟨S_, .f32⟩
  | 63 => ⟨S16x56x56x32, .f32⟩
  | 64 => ⟨S_, .i32⟩
  | 65 => ⟨S_, .f32⟩
  | 66 => ⟨S16x58x58x32, .f32⟩
  | 67 => ⟨S4x4x32x64, .f32⟩
  | 68 => ⟨S_, .f32⟩
  | 69 => ⟨S64, .f32⟩
  | 70 => ⟨S1x64x1x1, .f32⟩
  | 71 => ⟨S64, .f32⟩
  | 72 => ⟨S64x1, .f32⟩
  | 73 => ⟨S64x1, .f32⟩
  | 74 => ⟨S64x1, .f32⟩
  | 75 => ⟨S64x1, .f32⟩
  | 76 => ⟨S64x4, .f32⟩
  | 77 => ⟨S1x64x1x1, .f32⟩
  | 78 => ⟨S64, .f32⟩
  | 79 => ⟨S1x64x1x1, .f32⟩
  | 80 => ⟨S64, .f32⟩
  | 81 => ⟨S64x1, .f32⟩
  | 82 => ⟨S64x1, .f32⟩
  | 83 => ⟨S64x1, .f32⟩
  | 84 => ⟨S64x1, .f32⟩
  | 85 => ⟨S64x4, .f32⟩
  | 86 => ⟨S1x64x1x1, .f32⟩
  | 87 => ⟨S64, .f32⟩
  | 88 => ⟨S64x1, .f32⟩
  | 89 => ⟨S64x1, .f32⟩
  | 90 => ⟨S64x1, .f32⟩
  | 91 => ⟨S64x1, .f32⟩
  | 92 => ⟨S64x4, .f32⟩
  | 93 => ⟨S1x64x4, .f32⟩
  | 94 => ⟨S1x64x4, .f32⟩
  | 95 => ⟨S1x64x4, .f32⟩
  | 96 => ⟨S3x64x4, .f32⟩
  | 97 => ⟨S1x64x1x1, .f32⟩
  | 98 => ⟨S64, .f32⟩
  | 99 => ⟨S1x64x1x1, .f32⟩
  | 100 => ⟨S64, .f32⟩
  | 101 => ⟨S64x1, .f32⟩
  | 102 => ⟨S64x1, .f32⟩
  | 103 => ⟨S64x1, .f32⟩
  | 104 => ⟨S64x1, .f32⟩
  | 105 => ⟨S64x4, .f32⟩
  | 106 => ⟨S1x64x1x1, .f32⟩
  | 107 => ⟨S64, .f32⟩
  | 108 => ⟨S1x64x1x1, .f32⟩
  | 109 => ⟨S64, .f32⟩
  | 110 => ⟨S1x64x1x1, .f32⟩
  | 111 => ⟨S64, .f32⟩
  | 112 => ⟨S1x64x1x1, .f32⟩
  | 113 => ⟨S64, .f32⟩
  | 114 => ⟨S64x1, .f32⟩
  | 115 => ⟨S64x1, .f32⟩
  | 116 => ⟨S64x1, .f32⟩
  | 117 => ⟨S64x1, .f32⟩
  | 118 => ⟨S64x4, .f32⟩
  | 119 => ⟨S1x64x1x1, .f32⟩
  | 120 => ⟨S64, .f32⟩
  | 121 => ⟨S1x64x1x1, .f32⟩
  | 122 => ⟨S64, .f32⟩
  | 123 => ⟨S64x1, .f32⟩
  | 124 => ⟨S64x1, .f32⟩
  | 125 => ⟨S64x1, .f32⟩
  | 126 => ⟨S64x1, .f32⟩
  | 127 => ⟨S64x4, .f32⟩
  | _ => ⟨S16x1x224x224, .f32⟩

abbrev hbmTy0_1 (i : Nat) : BufTy := match i % 128 with
  | 0 => ⟨S1x64x4, .f32⟩
  | 1 => ⟨S1x64x4, .f32⟩
  | 2 => ⟨S1x64x4, .f32⟩
  | 3 => ⟨S3x64x4, .f32⟩
  | 4 => ⟨S1x64x1x1, .f32⟩
  | 5 => ⟨S64, .f32⟩
  | 6 => ⟨S64x1, .f32⟩
  | 7 => ⟨S64x1, .f32⟩
  | 8 => ⟨S64x1, .f32⟩
  | 9 => ⟨S64x1, .f32⟩
  | 10 => ⟨S64x4, .f32⟩
  | 11 => ⟨S1x64x1x1, .f32⟩
  | 12 => ⟨S64, .f32⟩
  | 13 => ⟨S1x64x1x1, .f32⟩
  | 14 => ⟨S64, .f32⟩
  | 15 => ⟨S64x1, .f32⟩
  | 16 => ⟨S64x1, .f32⟩
  | 17 => ⟨S64x1, .f32⟩
  | 18 => ⟨S64x1, .f32⟩
  | 19 => ⟨S64x4, .f32⟩
  | 20 => ⟨S1x64x1x1, .f32⟩
  | 21 => ⟨S64, .f32⟩
  | 22 => ⟨S64x1, .f32⟩
  | 23 => ⟨S64x1, .f32⟩
  | 24 => ⟨S64x1, .f32⟩
  | 25 => ⟨S64x1, .f32⟩
  | 26 => ⟨S64x4, .f32⟩
  | 27 => ⟨S1x64x4, .f32⟩
  | 28 => ⟨S1x64x4, .f32⟩
  | 29 => ⟨S1x64x4, .f32⟩
  | 30 => ⟨S3x64x4, .f32⟩
  | 31 => ⟨S1x3x64x4, .f32⟩
  | 32 => ⟨S1x3x64x4, .f32⟩
  | 33 => ⟨S1x3x64x4, .f32⟩
  | 34 => ⟨S3x3x64x4, .f32⟩
  | 35 => ⟨S1x64, .f32⟩
  | 36 => ⟨S1x1, .f32⟩
  | 37 => ⟨S16x12544x4, .f32⟩
  | 38 => ⟨S16x112x112x2x2, .f32⟩
  | 39 => ⟨S16x112x2x112x2, .f32⟩
  | 40 => ⟨S16x1x224x224, .f32⟩
  | _ => ⟨S16x1x224x224, .f32⟩

abbrev hbmTy (i : Nat) : BufTy := match i / 128 with
  | 0 => hbmTy0_0 i
  | 1 => hbmTy0_1 i
  | _ => ⟨S16x1x224x224, .f32⟩

abbrev bufTy : (tb : Table) → Fin (tcTables nBuf tb) → BufTy
  | .hbm, ⟨i, _⟩ => hbmTy i
  | .local _ .vmem, ⟨0, _⟩ => ⟨S1x12544x16, .f32⟩
  | .local _ .vmem, ⟨1, _⟩ => ⟨S1x12544x16, .f32⟩
  | .local _ .vmem, ⟨2, _⟩ => ⟨S16x64, .f32⟩
  | .local _ .vmem, ⟨3, _⟩ => ⟨S1x64, .f32⟩
  | .local _ .vmem, ⟨4, _⟩ => ⟨S16x64x32, .f32⟩
  | .local _ .vmem, ⟨5, _⟩ => ⟨S1x32, .f32⟩
  | .local _ .vmem, ⟨6, _⟩ => ⟨S1x3136x32, .f32⟩
  | .local _ .vmem, ⟨7, _⟩ => ⟨S1x3136x32, .f32⟩
  | .local _ .vmem, ⟨8, _⟩ => ⟨S114x114x64, .f32⟩
  | .local _ .vmem, ⟨9, _⟩ => ⟨S512x32, .f32⟩
  | .local _ .vmem, ⟨10, _⟩ => ⟨S512x32, .f32⟩
  | .local _ .vmem, ⟨11, _⟩ => ⟨S1024x32, .f32⟩
  | .local _ .vmem, ⟨12, _⟩ => ⟨S512x32, .f32⟩
  | .local _ .vmem, ⟨13, _⟩ => ⟨S512x32, .f32⟩
  | .local _ .vmem, ⟨14, _⟩ => ⟨S1x1x512, .i32⟩
  | .local _ .vmem, ⟨15, _⟩ => ⟨S1x1x512, .i32⟩
  | .local _ .vmem, ⟨16, _⟩ => ⟨S1x58x58x32, .f32⟩
  | .local _ .vmem, ⟨17, _⟩ => ⟨S1x58x58x32, .f32⟩
  | .local _ .vmem, ⟨18, _⟩ => ⟨S4x4x32x64, .f32⟩
  | .local _ .vmem, ⟨19, _⟩ => ⟨S1x64, .f32⟩
  | .local _ .vmem, ⟨20, _⟩ => ⟨S3x3x64x4, .f32⟩
  | .local _ .vmem, ⟨21, _⟩ => ⟨S1x1, .f32⟩
  | .local _ .vmem, ⟨22, _⟩ => ⟨S1x12544x4, .f32⟩
  | .local _ .vmem, ⟨23, _⟩ => ⟨S1x12544x4, .f32⟩
  | .local _ .vmem, ⟨24, _⟩ => ⟨S114x114x64, .f32⟩
  | .local _ .smem, ⟨0, _⟩ => ⟨S1x1, .f32⟩
  | _, _ => ⟨S16x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45_0 : Ref sig .tc := ⟨.hbm, 57, rfl⟩
abbrev main_v45_1 : Ref sig .tc := ⟨.hbm, 58, rfl⟩
abbrev main_v45_2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_0 : Ref sig .tc := ⟨.hbm, 64, rfl⟩
abbrev main_call1_v0 : Ref sig .tc := ⟨.hbm, 65, rfl⟩
abbrev main_v50 : Ref sig .tc := ⟨.hbm, 66, rfl⟩
abbrev main_v51 : Ref sig .tc := ⟨.hbm, 67, rfl⟩
abbrev main_cst : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc2_scratch0 : Ref sig .tc := ⟨.vmem, 24, rfl⟩
abbrev cc1_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12544x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3136x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![98], ![false]⟩

def k1_cond1 (i : grid1.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_15 : BitVec 32 := 0#32
  let v42 : BitVec 1 := Scalar.cmpi .ne v41 c0_i32_15
  v42

def k1_cond2 (i : grid1.Coords) : BitVec 1 :=
  let arg0 : BitVec 32 := BitVec.ofNat 32 (i 0).val
  let c0_i32_16 : BitVec 32 := 0#32
  let v43 : BitVec 1 := Scalar.cmpi .ne arg0 c0_i32_16
  let v44 : BitVec 32 := Scalar.extui v43
  let c0_i32_17 : BitVec 32 := 0#32
  let v45 : BitVec 1 := Scalar.cmpi .ne v44 c0_i32_17
  v45

def k1_cond3 (i : grid1.Coords) : BitVec 1 :=
  let arg0 : BitVec 32 := BitVec.ofNat 32 (i 0).val
  let c97_i32 : BitVec 32 := 97#32
  let v46 : BitVec 1 := Scalar.cmpi .eq arg0 c97_i32
  let v47 : BitVec 32 := Scalar.extui v46
  let c0_i32_18 : BitVec 32 := 0#32
  let v48 : BitVec 1 := Scalar.cmpi .ne v47 c0_i32_18
  v48

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![16], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x58x58x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x4x32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x3x64x4 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x12544x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== KernelIdeal.lean ====
variable {F : FTy → Type} [FloatOps F] [Named F]
def κ : String → Option EReal := fun
  | "loss_scale" => some ((5 / 6422528 : ℝ) : EReal)
  | _ => none
-- ==== ReferenceIdeal.lean ====
abbrev S16x1x224x224 : Shape := ⟨4, ![16, 1, 224, 224]⟩
abbrev S64x1x4x4 : Shape := ⟨4, ![64, 1, 4, 4]⟩
abbrev S64 : Shape := ⟨1, ![64]⟩
abbrev S32x64x4x4 : Shape := ⟨4, ![32, 64, 4, 4]⟩
abbrev S32 : Shape := ⟨1, ![32]⟩
abbrev S1024x32 : Shape := ⟨2, ![1024, 32]⟩
abbrev S64x32x4x4 : Shape := ⟨4, ![64, 32, 4, 4]⟩
abbrev S1x64x4x4 : Shape := ⟨4, ![1, 64, 4, 4]⟩
abbrev S1 : Shape := ⟨1, ![1]⟩
abbrev S_ : Shape := ⟨0, ![]⟩
abbrev S16x1x226x226 : Shape := ⟨4, ![16, 1, 226, 226]⟩
abbrev S112x4x1 : Shape := ⟨3, ![112, 4, 1]⟩
abbrev S16x1x112x4x226 : Shape := ⟨5, ![16, 1, 112, 4, 226]⟩
abbrev S16x1x112x4x112x4 : Shape := ⟨6, ![16, 1, 112, 4, 112, 4]⟩
abbrev S64x16x112x112 : Shape := ⟨4, ![64, 16, 112, 112]⟩
abbrev S16x64x112x112 : Shape := ⟨4, ![16, 64, 112, 112]⟩
abbrev S1x64x1x1 : Shape := ⟨4, ![1, 64, 1, 1]⟩
abbrev S16x64x114x114 : Shape := ⟨4, ![16, 64, 114, 114]⟩
abbrev S56x4x1 : Shape := ⟨3, ![56, 4, 1]⟩
abbrev S16x64x56x4x114 : Shape := ⟨5, ![16, 64, 56, 4, 114]⟩
abbrev S16x64x56x4x56x4 : Shape := ⟨6, ![16, 64, 56, 4, 56, 4]⟩
abbrev S32x16x56x56 : Shape := ⟨4, ![32, 16, 56, 56]⟩
abbrev S16x32x56x56 : Shape := ⟨4, ![16, 32, 56, 56]⟩
abbrev S1x32x1x1 : Shape := ⟨4, ![1, 32, 1, 1]⟩
abbrev S16x56x56x32 : Shape := ⟨4, ![16, 56, 56, 32]⟩
abbrev S50176x32 : Shape := ⟨2, ![50176, 32]⟩
abbrev S50176 : Shape := ⟨1, ![50176]⟩
abbrev S50176x1 : Shape := ⟨2, ![50176, 1]⟩
abbrev S1024 : Shape := ⟨1, ![1024]⟩
abbrev S1x1024 : Shape := ⟨2, ![1, 1024]⟩
abbrev S50176x1024 : Shape := ⟨2, ![50176, 1024]⟩
abbrev S32x1024 : Shape := ⟨2, ![32, 1024]⟩
abbrev S16x56x56 : Shape := ⟨3, ![16, 56, 56]⟩

abbrev nBuf : Space → Nat
  | .hbm => 88
  | .vmem => 0
  | .smem => 0
  | _ => 0

abbrev bufTy : (tb : Table) → Fin (tcTables nBuf tb) → BufTy
  | .hbm, ⟨0, _⟩ => ⟨S16x1x224x224, .f32⟩
  | .hbm, ⟨1, _⟩ => ⟨S64x1x4x4, .f32⟩
  | .hbm, ⟨2, _⟩ => ⟨S64, .f32⟩
  | .hbm, ⟨3, _⟩ => ⟨S32x64x4x4, .f32⟩
  | .hbm, ⟨4, _⟩ => ⟨S32, .f32⟩
  | .hbm, ⟨5, _⟩ => ⟨S1024x32, .f32⟩
  | .hbm, ⟨6, _⟩ => ⟨S64x32x4x4, .f32⟩
  | .hbm, ⟨7, _⟩ => ⟨S64, .f32⟩
  | .hbm, ⟨8, _⟩ => ⟨S1x64x4x4, .f32⟩
  | .hbm, ⟨9, _⟩ => ⟨S1, .f32⟩
  | .hbm, ⟨10, _⟩ => ⟨S_, .f32⟩
  | .hbm, ⟨11, _⟩ => ⟨S16x1x226x226, .f32⟩
  | .hbm, ⟨12, _⟩ => ⟨S112x4x1, .i32⟩
  | .hbm, ⟨13, _⟩ => ⟨S112x4x1, .i32⟩
  | .hbm, ⟨14, _⟩ => ⟨S112x4x1, .i32⟩
  | .hbm, ⟨15, _⟩ => ⟨S112x4x1, .i32⟩
  | .hbm, ⟨16, _⟩ => ⟨S16x1x112x4x226, .f32⟩
  | .hbm, ⟨17, _⟩ => ⟨S16x1x112x4x112x4, .f32⟩
  | .hbm, ⟨18, _⟩ => ⟨S64x16x112x112, .f32⟩
  | .hbm, ⟨19, _⟩ => ⟨S16x64x112x112, .f32⟩
  | .hbm, ⟨20, _⟩ => ⟨S1x64x1x1, .f32⟩
  | .hbm, ⟨21, _⟩ => ⟨S16x64x112x112, .f32⟩
  | .hbm, ⟨22, _⟩ => ⟨S16x64x112x112, .f32⟩
  | .hbm, ⟨23, _⟩ => ⟨S_, .f32⟩
  | .hbm, ⟨24, _⟩ => ⟨S16x64x112x112, .f32⟩
  | .hbm, ⟨25, _⟩ => ⟨S16x64x112x112, .f32⟩
  | .hbm, ⟨26, _⟩ => ⟨S_, .f32⟩
  | .hbm, ⟨27, _⟩ => ⟨S16x64x114x114, .f32⟩
  | .hbm, ⟨28, _⟩ => ⟨S56x4x1, .i32⟩
  | .hbm, ⟨29, _⟩ => ⟨S56x4x1, .i32⟩
  | .hbm, ⟨30, _⟩ => ⟨S56x4x1, .i32⟩
  | .hbm, ⟨31, _⟩ => ⟨S56x4x1, .i32⟩
  | .hbm, ⟨32, _⟩ => ⟨S16x64x56x4x114, .f32⟩
  | .hbm, ⟨33, _⟩ => ⟨S16x64x56x4x56x4, .f32⟩
  | .hbm, ⟨34, _⟩ => ⟨S32x16x56x56, .f32⟩
  | .hbm, ⟨35, _⟩ => ⟨S16x32x56x56, .f32⟩
  | .hbm, ⟨36, _⟩ => ⟨S1x32x1x1, .f32⟩
  | .hbm, ⟨37, _⟩ => ⟨S16x32x56x56, .f32⟩
  | .hbm, ⟨38, _⟩ => ⟨S16x32x56x56, .f32⟩
  | .hbm, ⟨39, _⟩ => ⟨S16x56x56x32, .f32⟩
  | .hbm, ⟨40, _⟩ => ⟨S50176x32, .f32⟩
  | .hbm, ⟨41, _⟩ => ⟨S50176x32, .f32⟩
  | .hbm, ⟨42, _⟩ => ⟨S_, .f32⟩
  | .hbm, ⟨43, _⟩ => ⟨S50176, .f32⟩
  | .hbm, ⟨44, _⟩ => ⟨S50176x1, .f32⟩
  | .hbm, ⟨45, _⟩ => ⟨S1024x32, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S50176x1024, .f32⟩
  | .hbm, ⟨50, _⟩ => ⟨S50176x1024, .f32⟩
  | .hbm, ⟨51, _⟩ => ⟨S50176x1024, .f32⟩
  | .hbm, ⟨52, _⟩ => ⟨S32x1024, .f32⟩
  | .hbm, ⟨53, _⟩ => ⟨S50176x1024, .f32⟩
  | .hbm, ⟨54, _⟩ => ⟨S_, .f32⟩
  | .hbm, ⟨55, _⟩ => ⟨S50176x1024, .f32⟩
  | .hbm, ⟨56, _⟩ => ⟨S50176x1024, .f32⟩
  | .hbm, ⟨57, _⟩ => ⟨S50176x1024, .f32⟩
  | .hbm, ⟨58, _⟩ => ⟨S50176x1024, .i32⟩
  | .hbm, ⟨59, _⟩ => ⟨S_, .f32⟩
  | .hbm, ⟨60, _⟩ => ⟨S_, .i32⟩
  | .hbm, ⟨61, _⟩ => ⟨S50176, .f32⟩
  | .hbm, ⟨62, _⟩ => ⟨S50176, .i32⟩
  | .hbm, ⟨63, _⟩ => ⟨S50176x1, .i32⟩
  | .hbm, ⟨64, _⟩ => ⟨S1x1024, .i32⟩
  | .hbm, ⟨65, _⟩ => ⟨S50176x1024, .i32⟩
  | .hbm, ⟨66, _⟩ => ⟨S50176x1024, .i32⟩
  | .hbm, ⟨67, _⟩ => ⟨S50176x1024, .i1⟩
  | .hbm, ⟨68, _⟩ => ⟨S50176x1024, .f32⟩
  | .hbm, ⟨69, _⟩ => ⟨S50176x32, .f32⟩
  | .hbm, ⟨70, _⟩ => ⟨S16x56x56x32, .f32⟩
  | .hbm, ⟨71, _⟩ => ⟨S16x32x56x56, .f32⟩
  | .hbm, ⟨72, _⟩ => ⟨S16x32x56x56, .f32⟩
  | .hbm, ⟨73, _⟩ => ⟨S16x32x56x56, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S16x32x56x56, .f32⟩
  | .hbm, ⟨79, _⟩ => ⟨S16x32x56x56, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S16x56x56, .i32⟩
  | _, _ => ⟨S16x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_v0 : Ref sig .tc := ⟨.hbm, 58, rfl⟩
abbrev main_call1_cst : Ref sig .tc := ⟨.hbm, 59, rfl⟩
abbrev main_call1_c : Ref sig .tc := ⟨.hbm, 60, rfl⟩
abbrev main_call1_v1_0 : Ref sig .tc := ⟨.hbm, 61, rfl⟩
abbrev main_v41 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_4 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_6 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩

abbrev nD : Nat := 1
abbrev τ : Topo := Topo.v7x

variable {F : FTy → Type} [FloatOps F]
-- ==== Proof.Fr.Scratch.lean ====
/- Membership of an index in a rectangle of a rank-three shape, as arithmetic on its coordinates. -/
module

public import Idealize.ShloMosaic.Lib.Tactic

@[expose] public section

namespace Cert.Scratch

open Idealize.ShloMosaic

/-- An index lies in a rectangle when on each axis it is the offset plus a multiple of the stride below the extent. -/
theorem mem_rect {S : Shape} (r : LoadRect S) (y : S.Idx) (q : Fin S.rank → ℕ)
    (h : ∀ a, q a < r.size a ∧ (y a : ℕ) = r.off a + r.stride a * q a) : y ∈ r.set :=
  r.mem_set.mpr fun a => ⟨q a, (h a).1, (h a).2⟩

/-- A rank-three index lies in a rectangle of unit strides within whose bounds it is. -/
theorem mem_unit3 {d0 d1 d2 o0 o1 o2 z0 z1 z2 : ℕ}
    (inb : ∀ a : Fin 3, (![o0, o1, o2] : Fin 3 → ℕ) a + (![z0, z1, z2] : Fin 3 → ℕ) a ≤ (⟨3, ![d0, d1, d2]⟩ : Shape).size a)
    (y : (⟨3, ![d0, d1, d2]⟩ : Shape).Idx)
    (h : (o0 ≤ (y 0).val ∧ (y 0).val < o0 + z0) ∧ (o1 ≤ (y 1).val ∧ (y 1).val < o1 + z1) ∧ (o2 ≤ (y 2).val ∧ (y 2).val < o2 + z2)) :
    y ∈ (Rect.unit (s := ⟨3, ![d0, d1, d2]⟩) ![o0, o1, o2] ![z0, z1, z2] inb).set := by
  refine mem_rect _ y (fun a => (y a).val - (![o0, o1, o2] : Fin 3 → ℕ) a) fun a => ?_
  show _ < (![z0, z1, z2] : Fin 3 → ℕ) a ∧ (y a).val = (![o0, o1, o2] : Fin 3 → ℕ) a + 1 * _
  fin_cases a <;> simp <;> omega

/-- A rank-three index lies in a rectangle of strides 2, 2, 1 within whose bounds and on whose grid it is. -/
theorem mem_strided3 {d0 d1 d2 o0 o1 o2 z0 z1 z2 : ℕ} (inb)
    (y : (⟨3, ![d0, d1, d2]⟩ : Shape).Idx)
    (h : (o0 ≤ (y 0).val ∧ (y 0).val < o0 + 2 * z0 ∧ ((y 0).val - o0) % 2 = 0)
      ∧ (o1 ≤ (y 1).val ∧ (y 1).val < o1 + 2 * z1 ∧ ((y 1).val - o1) % 2 = 0) ∧ (o2 ≤ (y 2).val ∧ (y 2).val < o2 + z2)) :
    y ∈ (⟨![o0, o1, o2], ![z0, z1, z2], ![2, 2, 1], inb⟩ : LoadRect ⟨3, ![d0, d1, d2]⟩).set := by
  refine mem_rect _ y (fun a => ((y a).val - (![o0, o1, o2] : Fin 3 → ℕ) a) / (![2, 2, 1] : Fin 3 → ℕ) a) fun a => ?_
  show _ < (![z0, z1, z2] : Fin 3 → ℕ) a ∧ (y a).val = (![o0, o1, o2] : Fin 3 → ℕ) a + (![2, 2, 1] : Fin 3 → ℕ) a * _
  fin_cases a <;> simp <;> omega

end Cert.Scratch

end
-- ==== Proof.Fr.IdealEnc.lean ====
/- The first region (the two encoder convolutions): its windows, its body run by the printed skeleton, its proof data and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fr.Scratch
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0__enc_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S1x3136x32 .f32 := (Memref.whole cc0_stg5_0 : Memref sig .tc .vmem S1x3136x32 .f32).view
/-- Each window's current staging memref at point `t`, spelled as the pipeline passes it (`bodyAt0`), and its wholeness. -/
abbrev ms0_0 (t : Fin cfg0.N) : Memref sig .tc .vmem S1x12544x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x3136x32 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S114x114x64 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc1_stg4_0), ((c : Thread nD τ).loc cc1_stg4_0) ↦{fullShare} f)) ∗ (∃ r, prngReg c r)) := by
  unfold Pipeline.ΦA; rw [scopedRest0_eq]; simp only [scM0_0, owns_whole]; try rfl

/-- The rectangles the first half stores in the scratch, last first: the four edges last, before them the tiles. -/
def scrRects0 : List (Rect S114x114x64) :=
  [Rect.unit (s := S114x114x64) ![99, 1, 0] ![14, 112, 64] inb_S114x114x64_S14x112x64_99_1_0,
   Rect.unit (s := S114x114x64) ![85, 1, 0] ![14, 112, 64] inb_S114x114x64_S14x112x64_85_1_0,
   Rect.unit (s := S114x114x64) ![71, 1, 0] ![14, 112, 64] inb_S114x114x64_S14x112x64_71_1_0,
   Rect.unit (s := S114x114x64) ![57, 1, 0] ![14, 112, 64] inb_S114x114x64_S14x112x64_57_1_0,
   Rect.unit (s := S114x114x64) ![43, 1, 0] ![14, 112, 64] inb_S114x114x64_S14x112x64_43_1_0,
   Rect.unit (s := S114x114x64) ![29, 1, 0] ![14, 112, 64] inb_S114x114x64_S14x112x64_29_1_0,
   Rect.unit (s := S114x114x64) ![15, 1, 0] ![14, 112, 64] inb_S114x114x64_S14x112x64_15_1_0,
   Rect.unit (s := S114x114x64) ![1, 1, 0] ![14, 112, 64] inb_S114x114x64_S14x112x64_1_1_0,
   Rect.unit (s := S114x114x64) ![0, 113, 0] ![114, 1, 64] inb_S114x114x64_S114x1x64_0_113_0,
   Rect.unit (s := S114x114x64) ![0, 0, 0] ![114, 1, 64] inb_S114x114x64_S114x1x64_0_0_0,
   Rect.unit (s := S114x114x64) ![113, 0, 0] ![1, 114, 64] inb_S114x114x64_S1x114x64_113_0_0,
   Rect.unit (s := S114x114x64) ![0, 0, 0] ![1, 114, 64] inb_S114x114x64_S1x114x64_0_0_0]

set_option maxHeartbeats 4000000 in
/-- They cover it. -/
theorem scrRects0_cover (y : S114x114x64.Idx) : ∃ r ∈ scrRects0, y ∈ r.set := by
  have h0 : (y 0).val < 114 := (y 0).isLt
  have h1 : (y 1).val < 114 := (y 1).isLt
  have h2 : (y 2).val < 64 := (y 2).isLt
  simp only [scrRects0, List.exists_mem_cons_iff]
  by_cases a0 : (y 0).val = 0 ∨ (y 0).val = 113 ∨ (y 1).val = 0 ∨ (y 1).val = 113
  · (iterate 8 apply Or.inr)
    rcases a0 with a | a | a | a
    · (iterate 3 apply Or.inr); exact .inl (Scratch.mem_unit3 _ _ (by omega))
    · (iterate 2 apply Or.inr); exact .inl (Scratch.mem_unit3 _ _ (by omega))
    · (iterate 1 apply Or.inr); exact .inl (Scratch.mem_unit3 _ _ (by omega))
    · exact .inl (Scratch.mem_unit3 _ _ (by omega))
  · obtain ⟨t, ht⟩ : ∃ t, t = ((y 0).val - 1) / 14 := ⟨_, rfl⟩
    rcases (by omega : t = 0 ∨ t = 1 ∨ t = 2 ∨ t = 3 ∨ t = 4 ∨ t = 5 ∨ t = 6 ∨ t = 7) with rfl | rfl | rfl | rfl | rfl | rfl | rfl | rfl
    · (iterate 7 apply Or.inr); exact .inl (Scratch.mem_unit3 _ _ (by omega))
    · (iterate 6 apply Or.inr); exact .inl (Scratch.mem_unit3 _ _ (by omega))
    · (iterate 5 apply Or.inr); exact .inl (Scratch.mem_unit3 _ _ (by omega))
    · (iterate 4 apply Or.inr); exact .inl (Scratch.mem_unit3 _ _ (by omega))
    · (iterate 3 apply Or.inr); exact .inl (Scratch.mem_unit3 _ _ (by omega))
    · (iterate 2 apply Or.inr); exact .inl (Scratch.mem_unit3 _ _ (by omega))
    · (iterate 1 apply Or.inr); exact .inl (Scratch.mem_unit3 _ _ (by omega))
    · skip; exact .inl (Scratch.mem_unit3 _ _ (by omega))

-- (the run's proof term is large: the definition's epilogue — `abstractNestedProofs` — walks it past the default budget)
set_option maxHeartbeats 4000000 in
/-- The pieces the body's first half stores in the scratch (`LT`), and, for the contents `Y` those
    pieces leave in the scratch whatever was there before, what the second half's stores leave in each output's staging memref, as pieces (last first), WITH the
    proof that on whole staging memrefs — the inputs' at their contents, the other outputs' at
    anything, the scratch buffers at anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) :
    Σ' (LT : List (View.Piece (Elt F) S114x114x64 .f32)), ∀ (Y : Vec F S114x114x64 .f32), { L5 : List (View.Piece (Elt F) S1x3136x32 .f32) //
      ∀ (E : Set ℕ) (K : PUnit → sProp 𝕄),
        iprop((∀ f, (arg7.view.loc (c : Thread nD τ) ↦[arg7.view.set]{fullShare} arg7.view.writes (Elt F) f LT) -∗ (arg7.view.loc (c : Thread nD τ) ↦[arg7.view.set]{fullShare} harg7.unread Y)) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc0__enc_body i arg1 harg1 arg2 harg2 arg3 harg3 arg4 harg4 arg5 harg5 arg6 harg6 arg7 harg7) K } := by
  refine ⟨?_, fun Y => ⟨?_, fun E K => ?run⟩⟩
  case run =>
    simp only [cc0__enc_body_eq_skeleton]; unfold cc0__enc_body_skel
    simp only [k0_part1_eq_skeleton, k0_part2_eq_skeleton, k0_part3_eq_skeleton, k0_part4_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨HY, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    set_option sl_exec.stopBefore "k0_part5" in sl_exec
    simp only [k0_part5_eq_skeleton]; unfold k0_part5_skel
    set_option sl_exec.maxSteps 4 in sl_exec
    ispecialize HY $$ %fs0
    ihave HS1 := HY $$ [HS0]
    · iexact HS0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS1
    ipureintro; rfl

/-- The pieces the first half's stores leave in the scratch cover it. -/
theorem scrCover0 (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) (y : S114x114x64.Idx) :
    ∃ pc ∈ (kernelRun0_A c i arg1 harg1 arg2 harg2 arg3 harg3 arg4 harg4 arg5 harg5 arg6 harg6 arg7 harg7 x0 x1 x2 x3 x4).1, y ∈ pc.1.set := by
  obtain ⟨r, hr, hy⟩ := scrRects0_cover y
  have h : (kernelRun0_A c i arg1 harg1 arg2 harg2 arg3 harg3 arg4 harg4 arg5 harg5 arg6 harg6 arg7 harg7 x0 x1 x2 x3 x4).1.map Sigma.fst = scrRects0 := rfl
  rw [← h, List.mem_map] at hr
  obtain ⟨p, hp, rfl⟩ := hr
  exact ⟨p, hp, hy⟩

/-- What the first half leaves in the scratch. -/
def scr0 (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) : Vec F S114x114x64 .f32 :=
  View.canon (kernelRun0_A c i arg1 harg1 arg2 harg2 arg3 harg3 arg4 harg4 arg5 harg5 arg6 harg6 arg7 harg7 x0 x1 x2 x3 x4).1

/-- The first half's stores leave the scratch at `scr0`, whatever it held. -/
theorem scr0_writes (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) (f : arg7.view.ty.Contents (Elt F)) :
    arg7.view.writes (Elt F) f (kernelRun0_A c i arg1 harg1 arg2 harg2 arg3 harg3 arg4 harg4 arg5 harg5 arg6 harg6 arg7 harg7 x0 x1 x2 x3 x4).1
      = harg7.unread (scr0 c i arg1 harg1 arg2 harg2 arg3 harg3 arg4 harg4 arg5 harg5 arg6 harg6 arg7 harg7 x0 x1 x2 x3 x4) :=
  harg7.eq_unread (View.read_writes_eq_canon _ _ _ (scrCover0 c i arg1 harg1 arg2 harg2 arg3 harg3 arg4 harg4 arg5 harg5 arg6 harg6 arg7 harg7 x0 x1 x2 x3 x4))

/-- The run's pieces for output 5 tile its block (4 stores of `S1x784x32`, checked by the kernel's evaluation: Lib/Ring.lean `Piece.tiledL`, linear in the pieces, through a loop's `@[irreducible]` trip theorem too), so they cover it. -/
theorem cover0_A_5 (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) (y : S1x3136x32.Idx) :
    ∃ pc ∈ ((kernelRun0_A c i arg1 harg1 arg2 harg2 arg3 harg3 arg4 harg4 arg5 harg5 arg6 harg6 arg7 harg7 x0 x1 x2 x3 x4).2 (scr0 c i arg1 harg1 arg2 harg2 arg3 harg3 arg4 harg4 arg5 harg5 arg6 harg6 arg7 harg7 x0 x1 x2 x3 x4)).1, y ∈ pc.1.set :=
  View.cover_of_tiledL ((kernelRun0_A c i arg1 harg1 arg2 harg2 arg3 harg3 arg4 harg4 arg5 harg5 arg6 harg6 arg7 harg7 x0 x1 x2 x3 x4).2 (scr0 c i arg1 harg1 arg2 harg2 arg3 harg3 arg4 harg4 arg5 harg5 arg6 harg6 arg7 harg7 x0 x1 x2 x3 x4)).1 S1x784x32.size (by sl_kernel_rfl) y

/-- What the run leaves in output 5's staging buffer: its pieces read back over junk. -/
def out0_A_5 (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec F S1x12544x16 .f32) (x1 : Vec F S16x64 .f32) (x2 : Vec F S1x64 .f32) (x3 : Vec F S16x64x32 .f32) (x4 : Vec F S1x32 .f32) : Vec F S1x3136x32 .f32 :=
  VO0_5.read (Elt F) (VO0_5.writes (Elt F) VO0_5.junk ((kernelRun0_A c i arg1 harg1 arg2 harg2 arg3 harg3 arg4 harg4 arg5 harg5 arg6 harg6 arg7 harg7 x0 x1 x2 x3 x4).2 (scr0 c i arg1 harg1 arg2 harg2 arg3 harg3 arg4 harg4 arg5 harg5 arg6 harg6 arg7 harg7 x0 x1 x2 x3 x4)).1)

/-! ## What the outputs hold after each point -/

/-- What the outputs' staging buffers hold after the body at point `t`: the run's contents at
    the point's memrefs and input blocks. -/
def outsAt0 (c : Dev nD) (t : Fin cfg0.N) : Vec F S1x3136x32 .f32 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t)

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  rw [show (dat0 V c).Φ t.castSucc = Pipeline.ΦA spec0 c from rfl, PhiA0_eq]
  unfold outsAt0
  unfold out0_A_5
  iintro ⟨⟨⟨HS0, HR1, HR2, HR3, HR4, HR5, HR6, HR7, HR8, HR9, HR10, HR11, HR12, HR13, HR14, HR15, HR16, HR17⟩, Hg⟩, Ho, ⟨%d0, H0⟩, ⟨%d1, H1⟩, ⟨%d2, H2⟩, ⟨%d3, H3⟩, ⟨%d4, H4⟩, ⟨%d5, H5⟩⟩
  iapply (((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t)).2 (scr0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t))).2 Set.univ _)
  isplitr
  · iintro %f HT; rw [← scr0_writes]; iexact HT
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HS0 HR1 HR2 HR3 HR4 HR5 HR6 HR7 HR8 HR9 HR10 HR11 HR12 HR13 HR14 HR15 HR16 HR17 Hg]
  · isplitl [HS0 HR1 HR2 HR3 HR4 HR5 HR6 HR7 HR8 HR9 HR10 HR11 HR12 HR13 HR14 HR15 HR16 HR17]
    · isplitl [HS0]
      · iexact HS0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HR16]
      · iexact HR16
      iexact HR17
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Fr

end
-- ==== Proof.Fr.IdealVq.lean ====
/- The second region (the vector quantiser): its windows, its three cases (first block, middle blocks, last block), the loss window carried from block to block, its proof data and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := k1_cond1 i = 1#1
/-- It holds at the first point only — by arithmetic of the point. -/
theorem hcond1_0 : ∀ t : Fin cfg1.N, cond1_0 (grid1.coords t) ↔ t.val % 98 = 0 :=
  (fun t => by
    have ht : t.val < 98 := Nat.lt_of_lt_of_eq t.isLt N_1
    have e0 : (grid1.coords t 0).val = t.val / 1 % 98 := Pipeline.Grid.coords_val t 0 (by decide) rfl
    simp only [cond1_0, k1_cond1, e0]
    word_cmp
   : ∀ t : Fin grid1.N, cond1_0 (grid1.coords t) ↔ t.val % 98 = 0)

/-- The condition of the body's `scf.if` 1 (`k1_h2`), from the grid coordinates (the skeleton's scalar
    chain substituted). -/
abbrev cond1_1 (i : grid1.Coords) : Prop := k1_cond2 i = 1#1
/-- It holds at the points from point 1 on — by arithmetic of the point. -/
theorem hcond1_1 : ∀ t : Fin cfg1.N, cond1_1 (grid1.coords t) ↔ 1 ≤ t.val :=
  (fun t => by
    have ht : t.val < 98 := Nat.lt_of_lt_of_eq t.isLt N_1
    have e0 : (grid1.coords t 0).val = t.val / 1 % 98 := Pipeline.Grid.coords_val t 0 (by decide) rfl
    simp only [cond1_1, k1_cond2, e0]
    word_cmp
   : ∀ t : Fin grid1.N, cond1_1 (grid1.coords t) ↔ 1 ≤ t.val)

/-- The condition of the body's `scf.if` 2 (`k1_h3`), from the grid coordinates (the skeleton's scalar
    chain substituted). -/
abbrev cond1_2 (i : grid1.Coords) : Prop := k1_cond3 i = 1#1
/-- It holds at the last point only — by arithmetic of the point. -/
theorem hcond1_2 : ∀ t : Fin cfg1.N, cond1_2 (grid1.coords t) ↔ t.val % 98 = 97 :=
  (fun t => by
    have ht : t.val < 98 := Nat.lt_of_lt_of_eq t.isLt N_1
    have e0 : (grid1.coords t 0).val = t.val / 1 % 98 := Pipeline.Grid.coords_val t 0 (by decide) rfl
    simp only [cond1_2, k1_cond3, e0]
    word_cmp
   : ∀ t : Fin grid1.N, cond1_2 (grid1.coords t) ↔ t.val % 98 = 97)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an output stored at every point, under no condition). -/
theorem liveAt1_2 : ∀ t : Fin cfg1.N, cfg1.idle 2 (grid1.coords t) = false := fun _ => rfl
/-- Window 3 is never idle (an output stored at every point, under no condition). -/
theorem liveAt1_3 : ∀ t : Fin cfg1.N, cfg1.idle 3 (grid1.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab1_4_step` checks it against the configuration's own
    step point by point and Lib/Pipeline/TableIdle.lean `Cfg.fresh_tab` makes it `Cfg.fresh` (`fresh1_4_eq`). -/
def freshTab1_4 : ℕ → Bool
  | 0 => true
  | n + 1 => (0x2000000000000000000000000 : ℕ).testBit n
theorem freshTab1_4_step : ∀ t : Fin cfg1.N,
    freshTab1_4 (t.val + 1) = ((cfg1.win 4).flush t || (cfg1.idle 4 (cfg1.grid.coords t) && freshTab1_4 t.val)) := by decide +kernel
theorem fresh1_4_eq (t : Fin cfg1.N) : cfg1.fresh 4 t.val = freshTab1_4 t.val :=
  Pipeline.Cfg.fresh_tab cfg1 4 freshTab1_4 rfl freshTab1_4_step t.val (Nat.le_of_lt t.isLt)
/-- At the points of case A the printed configuration (`Cfg.idle`) calls output 4 live: the case stores into it. -/
theorem liveAt1_4_A : ∀ t : Fin cfg1.N, cond1_0 (grid1.coords t) → ¬cond1_1 (grid1.coords t) → ¬cond1_2 (grid1.coords t) → cfg1.idle 4 (grid1.coords t) = false := by decide +kernel
/-- At the points of case B the printed configuration (`Cfg.idle`) calls output 4 live: the case stores into it. -/
theorem liveAt1_4_B : ∀ t : Fin cfg1.N, ¬cond1_0 (grid1.coords t) → cond1_1 (grid1.coords t) → ¬cond1_2 (grid1.coords t) → cfg1.idle 4 (grid1.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab1_4`). -/
theorem notFresh1_4_B : ∀ t : Fin cfg1.N, ¬cond1_0 (grid1.coords t) → cond1_1 (grid1.coords t) → ¬cond1_2 (grid1.coords t) → cfg1.fresh 4 t.val = false := by
  intro t; rw [fresh1_4_eq t]; revert t; decide +kernel
/-- At the points of case C the printed configuration (`Cfg.idle`) calls output 4 live: the case stores into it. -/
theorem liveAt1_4_C : ∀ t : Fin cfg1.N, ¬cond1_0 (grid1.coords t) → cond1_1 (grid1.coords t) → cond1_2 (grid1.coords t) → cfg1.idle 4 (grid1.coords t) = false := by decide +kernel
/-- At the points of case C, which keeps output 4's prior contents (reads it before covering, or covers it in part), the
    window's buffer is not FRESH: something was stored into it since the region's entry or its last write-back, idle points
    between or not (Lib/Pipeline/TableIdle.lean `Cfg.fresh`, by the table `freshTab1_4`). -/
theorem notFresh1_4_C : ∀ t : Fin cfg1.N, ¬cond1_0 (grid1.coords t) → cond1_1 (grid1.coords t) → cond1_2 (grid1.coords t) → cfg1.fresh 4 t.val = false := by
  intro t; rw [fresh1_4_eq t]; revert t; decide +kernel

/-! ## The kernel body on any staging memrefs: a subtype the run finds -/

/-- One staging buffer of output window 2, through which its contents are stated (`View.read_writes_of_cover`: the
    choice does not matter). -/
abbrev VO1_2 : View sig .tc .vmem S512x32 .f32 := (Memref.whole cc1_stg2_0 : Memref sig .tc .vmem S512x32 .f32).view
/-- One staging buffer of output window 3, through which its contents are stated (`View.read_writes_of_cover`: the
    choice does not matter). -/
abbrev VO1_3 : View sig .tc .vmem S1x1x512 .i32 := (Memref.whole cc1_stg3_0 : Memref sig .tc .vmem S1x1x512 .i32).view
/-- One staging buffer of output window 4, through which its contents are stated (`View.read_writes_of_cover`: the
    choice does not matter). -/
abbrev VO1_4 : View sig .tc .smem S1x1 .f32 := (Memref.whole cc1_stg4_0 : Memref sig .tc .smem S1x1 .f32).view
/-- Each window's current staging memref at point `t`, spelled as the pipeline passes it (`bodyAt1`), and its wholeness. -/
abbrev ms1_0 (t : Fin cfg1.N) : Memref sig .tc .vmem S512x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .smem S1x1 .f32 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) :
    Σ' (L2 : List (View.Piece (Elt F) S512x32 .f32)), Σ' (L3 : List (View.Piece (Elt F) S1x1x512 .i32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__vq_body i arg1 harg1 arg2 harg2 arg3 harg3 arg4 harg4 arg5 harg5) K } := by
  refine ⟨?_, ?_, ?_, fun E K => ?run⟩
  case run =>
    simp only [cc1__vq_body_eq_skeleton]; unfold cc1__vq_body_skel
    simp only [k1_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, Hk⟩
    obtain rfl := harg1.eq_unread hf0; obtain rfl := harg2.eq_unread hf1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 96: 96 of 98), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) :
    Σ' (L2 : List (View.Piece (Elt F) S512x32 .f32)), Σ' (L3 : List (View.Piece (Elt F) S1x1x512 .i32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__vq_body i arg1 harg1 arg2 harg2 arg3 harg3 arg4 harg4 arg5 harg5) K } := by
  refine ⟨?_, ?_, ?_, fun E K => ?run⟩
  case run =>
    simp only [cc1__vq_body_eq_skeleton]; unfold cc1__vq_body_skel
    simp only [k1_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 97), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) :
    Σ' (L2 : List (View.Piece (Elt F) S512x32 .f32)), Σ' (L3 : List (View.Piece (Elt F) S1x1x512 .i32)), { L4 : List (View.Piece (Elt F) S1x1 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__vq_body i arg1 harg1 arg2 harg2 arg3 harg3 arg4 harg4 arg5 harg5) K } := by
  refine ⟨?_, ?_, ?_, fun E K => ?run⟩
  case run =>
    simp only [cc1__vq_body_eq_skeleton]; unfold cc1__vq_body_skel
    simp only [k1_part1_eq_skeleton]
    unfold owns
    iintro ⟨⟨%f0, %hf0, H0⟩, ⟨%f1, %hf1, H1⟩, ⟨%d2, %f2, -, H2⟩, ⟨%d3, %f3, -, H3⟩, ⟨%f4, %hf4, H4⟩, Hk⟩
    obtain rfl := harg1.eq_unread hf0; obtain rfl := harg2.eq_unread hf1; obtain rfl := harg5.eq_unread hf4
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    iexists _; iexact H4

/-- Case A's pieces for output 2 tile its block (1 store of `S512x32`, checked by the kernel's evaluation: Lib/Ring.lean `Piece.tiledL`, linear in the pieces, through a loop's `@[irreducible]` trip theorem too), so they cover it. -/
theorem cover1_A_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) (y : S512x32.Idx) :
    ∃ pc ∈ (kernelRun1_A c i arg1 harg1 arg2 harg2 arg3 harg3 arg4 harg4 arg5 harg5 hc0 hc1 hc2 x0 x1).1, y ∈ pc.1.set :=
  View.cover_of_tiledL (kernelRun1_A c i arg1 harg1 arg2 harg2 arg3 harg3 arg4 harg4 arg5 harg5 hc0 hc1 hc2 x0 x1).1 S512x32.size (by sl_kernel_rfl) y

/-- What case A leaves in output 2's staging buffer: its pieces read back over junk. -/
def out1_A_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) : Vec F S512x32 .f32 :=
  VO1_2.read (Elt F) (VO1_2.writes (Elt F) VO1_2.junk (kernelRun1_A c i arg1 harg1 arg2 harg2 arg3 harg3 arg4 harg4 arg5 harg5 hc0 hc1 hc2 x0 x1).1)

/-- Case A's pieces for output 3 tile its block (1 store of `S1x1x512`, checked by the kernel's evaluation: Lib/Ring.lean `Piece.tiledL`, linear in the pieces, through a loop's `@[irreducible]` trip theorem too), so they cover it. -/
theorem cover1_A_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) (y : S1x1x512.Idx) :
    ∃ pc ∈ (kernelRun1_A c i arg1 harg1 arg2 harg2 arg3 harg3 arg4 harg4 arg5 harg5 hc0 hc1 hc2 x0 x1).2.1, y ∈ pc.1.set :=
  View.cover_of_tiledL (kernelRun1_A c i arg1 harg1 arg2 harg2 arg3 harg3 arg4 harg4 arg5 harg5 hc0 hc1 hc2 x0 x1).2.1 S1x1x512.size (by sl_kernel_rfl) y

/-- What case A leaves in output 3's staging buffer: its pieces read back over junk. -/
def out1_A_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) : Vec F S1x1x512 .i32 :=
  VO1_3.read (Elt F) (VO1_3.writes (Elt F) VO1_3.junk (kernelRun1_A c i arg1 harg1 arg2 harg2 arg3 harg3 arg4 harg4 arg5 harg5 hc0 hc1 hc2 x0 x1).2.1)

/-- Case A's pieces for output 4 tile its block (1 store of `S1x1`, checked by the kernel's evaluation: Lib/Ring.lean `Piece.tiledL`, linear in the pieces, through a loop's `@[irreducible]` trip theorem too), so they cover it. -/
theorem cover1_A_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) (y : S1x1.Idx) :
    ∃ pc ∈ (kernelRun1_A c i arg1 harg1 arg2 harg2 arg3 harg3 arg4 harg4 arg5 harg5 hc0 hc1 hc2 x0 x1).2.2.1, y ∈ pc.1.set :=
  View.cover_of_tiledL (kernelRun1_A c i arg1 harg1 arg2 harg2 arg3 harg3 arg4 harg4 arg5 harg5 hc0 hc1 hc2 x0 x1).2.2.1 S1x1.size (by sl_kernel_rfl) y

/-- What case A leaves in output 4's staging buffer: its pieces read back over junk. -/
def out1_A_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : cond1_0 i) (hc1 : ¬cond1_1 i) (hc2 : ¬cond1_2 i)
    (x0 : Vec F S512x32 .f32) (x1 : Vec F S1024x32 .f32) : Vec F S1x1 .f32 :=
  VO1_4.read (Elt F) (VO1_4.writes (Elt F) VO1_4.junk (kernelRun1_A c i arg1 harg1 arg2 harg2 arg3 harg3 arg4 harg4 arg5 harg5 hc0 hc1 hc2 x0 x1).2.2.1)

/-- Case B's pieces for output 2 tile its block (1 store of `S512x32`, checked by the kernel's evaluation: Lib/Ring.lean `Piece.tiledL`, linear in the pieces, through a loop's `@[irreducible]` trip theorem too), so they cover it. -/
theorem cover1_B_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) (y : S512x32.Idx) :
    ∃ pc ∈ (kernelRun1_B c i arg1 harg1 arg2 harg2 arg3 harg3 arg4 harg4 arg5 harg5 hc0 hc1 hc2 x0 x1 xo4).1, y ∈ pc.1.set :=
  View.cover_of_tiledL (kernelRun1_B c i arg1 harg1 arg2 harg2 arg3 harg3 arg4 harg4 arg5 harg5 hc0 hc1 hc2 x0 x1 xo4).1 S512x32.size (by sl_kernel_rfl) y

/-- What case B leaves in output 2's staging buffer: its pieces read back over junk. -/
def out1_B_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) : Vec F S512x32 .f32 :=
  VO1_2.read (Elt F) (VO1_2.writes (Elt F) VO1_2.junk (kernelRun1_B c i arg1 harg1 arg2 harg2 arg3 harg3 arg4 harg4 arg5 harg5 hc0 hc1 hc2 x0 x1 xo4).1)

/-- Case B's pieces for output 3 tile its block (1 store of `S1x1x512`, checked by the kernel's evaluation: Lib/Ring.lean `Piece.tiledL`, linear in the pieces, through a loop's `@[irreducible]` trip theorem too), so they cover it. -/
theorem cover1_B_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) (y : S1x1x512.Idx) :
    ∃ pc ∈ (kernelRun1_B c i arg1 harg1 arg2 harg2 arg3 harg3 arg4 harg4 arg5 harg5 hc0 hc1 hc2 x0 x1 xo4).2.1, y ∈ pc.1.set :=
  View.cover_of_tiledL (kernelRun1_B c i arg1 harg1 arg2 harg2 arg3 harg3 arg4 harg4 arg5 harg5 hc0 hc1 hc2 x0 x1 xo4).2.1 S1x1x512.size (by sl_kernel_rfl) y

/-- What case B leaves in output 3's staging buffer: its pieces read back over junk. -/
def out1_B_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) : Vec F S1x1x512 .i32 :=
  VO1_3.read (Elt F) (VO1_3.writes (Elt F) VO1_3.junk (kernelRun1_B c i arg1 harg1 arg2 harg2 arg3 harg3 arg4 harg4 arg5 harg5 hc0 hc1 hc2 x0 x1 xo4).2.1)

/-- Case B's pieces for output 4 tile its block (1 store of `S1x1`, checked by the kernel's evaluation: Lib/Ring.lean `Piece.tiledL`, linear in the pieces, through a loop's `@[irreducible]` trip theorem too), so they cover it. -/
theorem cover1_B_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) (y : S1x1.Idx) :
    ∃ pc ∈ (kernelRun1_B c i arg1 harg1 arg2 harg2 arg3 harg3 arg4 harg4 arg5 harg5 hc0 hc1 hc2 x0 x1 xo4).2.2.1, y ∈ pc.1.set :=
  View.cover_of_tiledL (kernelRun1_B c i arg1 harg1 arg2 harg2 arg3 harg3 arg4 harg4 arg5 harg5 hc0 hc1 hc2 x0 x1 xo4).2.2.1 S1x1.size (by sl_kernel_rfl) y

/-- What case B leaves in output 4's staging buffer: its pieces read back over junk. -/
def out1_B_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : ¬cond1_2 i)
    (x0 : Vec F S512x32 .f32) (x1 : Vec F S1024x32 .f32) (xo4 : Vec F S1x1 .f32) : Vec F S1x1 .f32 :=
  VO1_4.read (Elt F) (VO1_4.writes (Elt F) VO1_4.junk (kernelRun1_B c i arg1 harg1 arg2 harg2 arg3 harg3 arg4 harg4 arg5 harg5 hc0 hc1 hc2 x0 x1 xo4).2.2.1)

/-- Case C's pieces for output 2 tile its block (1 store of `S512x32`, checked by the kernel's evaluation: Lib/Ring.lean `Piece.tiledL`, linear in the pieces, through a loop's `@[irreducible]` trip theorem too), so they cover it. -/
theorem cover1_C_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) (y : S512x32.Idx) :
    ∃ pc ∈ (kernelRun1_C c i arg1 harg1 arg2 harg2 arg3 harg3 arg4 harg4 arg5 harg5 hc0 hc1 hc2 x0 x1 xo4).1, y ∈ pc.1.set :=
  View.cover_of_tiledL (kernelRun1_C c i arg1 harg1 arg2 harg2 arg3 harg3 arg4 harg4 arg5 harg5 hc0 hc1 hc2 x0 x1 xo4).1 S512x32.size (by sl_kernel_rfl) y

/-- What case C leaves in output 2's staging buffer: its pieces read back over junk. -/
def out1_C_2 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) : Vec F S512x32 .f32 :=
  VO1_2.read (Elt F) (VO1_2.writes (Elt F) VO1_2.junk (kernelRun1_C c i arg1 harg1 arg2 harg2 arg3 harg3 arg4 harg4 arg5 harg5 hc0 hc1 hc2 x0 x1 xo4).1)

/-- Case C's pieces for output 3 tile its block (1 store of `S1x1x512`, checked by the kernel's evaluation: Lib/Ring.lean `Piece.tiledL`, linear in the pieces, through a loop's `@[irreducible]` trip theorem too), so they cover it. -/
theorem cover1_C_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) (y : S1x1x512.Idx) :
    ∃ pc ∈ (kernelRun1_C c i arg1 harg1 arg2 harg2 arg3 harg3 arg4 harg4 arg5 harg5 hc0 hc1 hc2 x0 x1 xo4).2.1, y ∈ pc.1.set :=
  View.cover_of_tiledL (kernelRun1_C c i arg1 harg1 arg2 harg2 arg3 harg3 arg4 harg4 arg5 harg5 hc0 hc1 hc2 x0 x1 xo4).2.1 S1x1x512.size (by sl_kernel_rfl) y

/-- What case C leaves in output 3's staging buffer: its pieces read back over junk. -/
def out1_C_3 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) : Vec F S1x1x512 .i32 :=
  VO1_3.read (Elt F) (VO1_3.writes (Elt F) VO1_3.junk (kernelRun1_C c i arg1 harg1 arg2 harg2 arg3 harg3 arg4 harg4 arg5 harg5 hc0 hc1 hc2 x0 x1 xo4).2.1)

/-- Case C's pieces for output 4 tile its block (2 stores of `S1x1`, checked by the kernel's evaluation: Lib/Ring.lean `Piece.tiledL`, linear in the pieces, through a loop's `@[irreducible]` trip theorem too), so they cover it. -/
theorem cover1_C_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) (y : S1x1.Idx) :
    ∃ pc ∈ (kernelRun1_C c i arg1 harg1 arg2 harg2 arg3 harg3 arg4 harg4 arg5 harg5 hc0 hc1 hc2 x0 x1 xo4).2.2.1, y ∈ pc.1.set :=
  View.cover_of_tiledL (kernelRun1_C c i arg1 harg1 arg2 harg2 arg3 harg3 arg4 harg4 arg5 harg5 hc0 hc1 hc2 x0 x1 xo4).2.2.1 S1x1.size (by sl_kernel_rfl) y

/-- What case C leaves in output 4's staging buffer: its pieces read back over junk. -/
def out1_C_4 (c : Dev nD) (i : grid1.Coords) (arg1 : Memref sig .tc .vmem S512x32 .f32) (harg1 : arg1.IsWhole) (arg2 : Memref sig .tc .vmem S1024x32 .f32) (harg2 : arg2.IsWhole) (arg3 : Memref sig .tc .vmem S512x32 .f32) (harg3 : arg3.IsWhole) (arg4 : Memref sig .tc .vmem S1x1x512 .i32) (harg4 : arg4.IsWhole) (arg5 : Memref sig .tc .smem S1x1 .f32) (harg5 : arg5.IsWhole) (hc0 : ¬cond1_0 i) (hc1 : cond1_1 i) (hc2 : cond1_2 i)
    (x0 : Vec F S512x32 .f32) (x1 : Vec F S1024x32 .f32) (xo4 : Vec F S1x1 .f32) : Vec F S1x1 .f32 :=
  VO1_4.read (Elt F) (VO1_4.writes (Elt F) VO1_4.junk (kernelRun1_C c i arg1 harg1 arg2 harg2 arg3 harg3 arg4 harg4 arg5 harg5 hc0 hc1 hc2 x0 x1 xo4).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`); an output it leaves idle whose contents another case keeps stays
    what this leaves at `n - 1`, carried. An assignment of the conditions no point meets is no case (`False.elim`). -/
def outsAt1 (c : Dev nD) : (n : ℕ) → n < cfg1.N → Vec F S512x32 .f32 × Vec F S1x1x512 .i32 × Vec F S1x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩))
  | n + 1, hn =>
    if h0 : (n + 1) % 98 = 0 then
      if h1 : 1 ≤ (n + 1) then
        False.elim (by have hN : n + 1 < 98 := lt_of_lt_of_eq hn (show cfg1.N = 98 from N_1); omega)
      else
        if h2 : (n + 1) % 98 = 97 then
          False.elim (by have hN : n + 1 < 98 := lt_of_lt_of_eq hn (show cfg1.N = 98 from N_1); omega)
        else
          (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩), out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩))
    else
      if h1 : 1 ≤ (n + 1) then
        if h2 : (n + 1) % 98 = 97 then
          (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2, out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (outsAt1 c n (Nat.lt_of_succ_lt hn)).2.2)
        else
          (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (outsAt1 c n (Nat.lt_of_succ_lt hn)).2.2)
      else
        False.elim (by have hN : n + 1 < 98 := lt_of_lt_of_eq hn (show cfg1.N = 98 from N_1); omega)

/-- `outsAt1` at a point of case A: that case's contents. -/
theorem outsAt1_A (c : Dev nD) (t : Fin cfg1.N) (h0 : t.val % 98 = 0) (h1 : ¬1 ≤ t.val) (h2 : ¬t.val % 98 = 97) :
    outsAt1 V c t.val t.isLt = (out1_A_2 c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (fun h => h2 ((hcond1_2 t).mp h)) (iblk1 V c 0 t) (iblk1 V c 1 t), out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (fun h => h2 ((hcond1_2 t).mp h)) (iblk1 V c 0 t) (iblk1 V c 1 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (fun h => h1 ((hcond1_1 t).mp h)) (fun h => h2 ((hcond1_2 t).mp h)) (iblk1 V c 0 t) (iblk1 V c 1 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 98 = 0) (h1 : 1 ≤ t.val) (h2 : ¬t.val % 98 = 97) :
    outsAt1 V c t.val t.isLt = (out1_B_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.2, out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) (fun h => h2 ((hcond1_2 t).mp h)) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 98 = 0) (h1 : 1 ≤ t.val) (h2 : t.val % 98 = 97) :
    outsAt1 V c t.val t.isLt = (out1_C_2 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2, out1_C_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2, out1_C_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) ((hcond1_1 t).mpr h1) ((hcond1_2 t).mpr h2) (iblk1 V c 0 t) (iblk1 V c 1 t) (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The proof data of the one pipeline on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
    | ⟨4, _⟩ => (outsAt1 V c t.val t.isLt).2.2
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]
theorem after1_4 (c : Dev nD) (t : Fin cfg1.N) : (dat1 V c).after 4 t = (outsAt1 V c t.val t.isLt).2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Output 4's contents CARRY through the points that leave it idle: at such a point, its buffer not fresh, the proof data's
    `after` is the point before's (the case there stores nothing into the window and its term says so; a case that stores
    into it is not idle there by `liveAt1_4_κ`) — the hypothesis of Lib/Pipeline/TableIdle.lean `Dat.before_out_traj`. -/
theorem hcarry1_4 (c : Dev nD) : ∀ (t : Fin cfg1.N) (_ : t.val ≠ 0), cfg1.idle 4 (grid1.coords t) = true → cfg1.fresh 4 t.val = false →
    (dat1 V c).after 4 t = (dat1 V c).after 4 ⟨t.val - 1, by omega⟩ := by
  intro t _ hi _
  have hN : t.val < 98 := lt_of_lt_of_eq t.isLt (show cfg1.N = 98 from N_1)
  rw [after1_4, after1_4]
  by_cases h0 : t.val % 98 = 0
  · by_cases h1 : 1 ≤ t.val
    · exfalso; omega
    · by_cases h2 : t.val % 98 = 97
      · exfalso; omega
      · rw [liveAt1_4_A t ((hcond1_0 t).mpr h0) (fun h => h1 ((hcond1_1 t).mp h)) (fun h => h2 ((hcond1_2 t).mp h))] at hi
        exact absurd hi Bool.false_ne_true
  · by_cases h1 : 1 ≤ t.val
    · by_cases h2 : t.val % 98 = 97
      · rw [liveAt1_4_C t (fun h => h0 ((hcond1_0 t).mp h)) ((hcond1_1 t).mpr h1) ((hcond1_2 t).mpr h2)] at hi
        exact absurd hi Bool.false_ne_true
      · rw [liveAt1_4_B t (fun h => h0 ((hcond1_0 t).mp h)) ((hcond1_1 t).mpr h1) (fun h => h2 ((hcond1_2 t).mp h))] at hi
        exact absurd hi Bool.false_ne_true
    · exfalso; omega
/-- At a point of case B output 4's current staging buffer holds what the point before left: the buffer is not fresh
    there (`notFresh1_4_B`: stored into since the region's entry or the last write-back, carried through the points that
    leave it idle by `hcarry1_4`; Lib/Pipeline/TableIdle.lean `Dat.before_out_traj`). -/
theorem before1_4_B (c : Dev nD) (t : Fin cfg1.N) (h0 : ¬t.val % 98 = 0) (h1 : 1 ≤ t.val) (h2 : ¬t.val % 98 = 97) (d) :
    (dat1 V c).before 4 t d = (outsAt1 V c (t.val - 1) (Nat.lt_of_le_of_lt (Nat.sub_le _ _) t.isLt)).2.2 := by
  rw [Dat.before_out_traj _ 4 rfl (fun _ _ => rfl) (hcarry1_4 V c) t.val t rfl d,
    if_neg (by rw [notFresh1_4_B t (fun h => h0 ((hcond1_0 t).mp h)) ((hcond1_1 t).mpr h1) (fun h => h2 ((hcond1_2 t).mp h))]; exact Bool.false_ne_true)]
  dsimp only [dat1]
/-- At a point of case C output 4's current staging buffer holds what the point before left: the buffer is not fresh
    there (`notFresh1_4_C`: stored into since the region's entry or the last write-back, carried through the points that
    leave it idle by `hcarry1_4`; Lib/Pipeline/TableIdle.lean `Dat.before_out_traj`). -/
theorem before1_4_C (c : Dev nD) (t : Fin cfg1.N) (h0 : ¬t.val % 98 = 0) (h1 : 1 ≤ t.val) (h2 : t.val % 98 = 97) (d) :
    (dat1 V c).before 4 t d = (outsAt1 V c (t.val - 1) (Nat.lt_of_le_of_lt (Nat.sub_le _ _) t.isLt)).2.2 := by
  rw [Dat.before_out_traj _ 4 rfl (fun _ _ => rfl) (hcarry1_4 V c) t.val t rfl d,
    if_neg (by rw [notFresh1_4_C t (fun h => h0 ((hcond1_0 t).mp h)) ((hcond1_1 t).mpr h1) ((hcond1_2 t).mpr h2)]; exact Bool.false_ne_true)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 1200000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl]
  have hN : t.val < 98 := lt_of_lt_of_eq t.isLt (show cfg1.N = 98 from N_1)
  by_cases h0 : t.val % 98 = 0
  · by_cases h1 : 1 ≤ t.val
    · exfalso; omega
    · by_cases h2 : t.val % 98 = 97
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_A t ((hcond1_0 t).mpr h0) (fun h => h1 ((hcond1_1 t).mp h)) (fun h => h2 ((hcond1_2 t).mp h))], after1_4]
        rw [outsAt1_A V c t h0 h1 h2]
        unfold out1_A_2 out1_A_3 out1_A_4; (try dsimp only)
        iintro ⟨HΦ, Ho, ⟨%d0, H0⟩, ⟨%d1, H1⟩, ⟨%d2, H2⟩, ⟨%d3, H3⟩, ⟨%d4, H4⟩⟩
        iapply ((kernelRun1_A c (grid1.coords t) _ _ _ _ _ _ _ _ _ _ ((hcond1_0 t).mpr h0) (fun h => h1 ((hcond1_1 t).mp h)) (fun h => h2 ((hcond1_2 t).mp h)) (iblk1 V c 0 t) (iblk1 V c 1 t)).2.2.2 Set.univ _)
        isplitl [H0]; · iexact H0
        isplitl [H1]; · iexact H1
        isplitl [H2]; · iexists _; iexact H2
        isplitl [H3]; · iexists _; iexact H3
        isplitl [H4]; · iexists _; iexact H4
        iintro ⟨H0, H1, ⟨%e2, H2⟩, ⟨%e3, H3⟩, ⟨%e4, H4⟩⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_A_2 c _ _ _ _ _ _ _ _ _ _ _ _ _ _ _ _)
        isplitl [H3]
        · unfold owns; iexists _; isplitr
          swap; · iexact H3
          ipureintro; exact View.read_writes_of_cover _ _ _ _ _ (cover1_A_3 c _ _ _ _ _ _ _ _ _ _ _ _ _ _ _ _)
        unfold owns; iexists _; isplitr
        swap; · iexact H4
        ipureintro; exact View.read_writes_of_cover _ _ _ _ _ (cover1_A_4 c _ _ _ _ _ _ _ _ _ _ _ _ _ _ _ _)
  · by_cases h1 : 1 ≤ t.val
    · by_cases h2 : t.val % 98 = 97
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_C t (fun h => h0 ((hcond1_0 t).mp h)) ((hcond1_1 t).mpr h1) ((hcond1_2 t).mpr h2)], after1_4]
        rw [outsAt1_C V c t h0 h1 h2]
        simp only [before1_4_C V c t h0 h1 h2]
        unfold out1_C_2 out1_C_3 out1_C_4; (try dsimp only)
        iintro ⟨HΦ, Ho, ⟨%d0, H0⟩, ⟨%d1, H1⟩, ⟨%d2, H2⟩, ⟨%d3, H3⟩, ⟨%d4, H4⟩⟩
        iapply ((kernelRun1_C c (grid1.coords t) _ _ _ _ _ _ _ _ _ _ (fun h => h0 ((hcond1_0 t).mp h)) ((hcond1_1 t).mpr h1) ((hcond1_2 t).mpr h2) (iblk1 V c 0 t) (iblk1 V c 1 t) _).2.2.2 Set.univ _)
        isplitl [H0]; · iexact H0
        isplitl [H1]; · iexact H1
        isplitl [H2]; · iexists _; iexact H2
        isplitl [H3]; · iexists _; iexact H3
        isplitl [H4]; · iexact H4
        iintro ⟨H0, H1, ⟨%e2, H2⟩, ⟨%e3, H3⟩, ⟨%e4, H4⟩⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_C_2 c _ _ _ _ _ _ _ _ _ _ _ _ _ _ _ _ _)
        isplitl [H3]
        · unfold owns; iexists _; isplitr
          swap; · iexact H3
          ipureintro; exact View.read_writes_of_cover _ _ _ _ _ (cover1_C_3 c _ _ _ _ _ _ _ _ _ _ _ _ _ _ _ _ _)
        unfold owns; iexists _; isplitr
        swap; · iexact H4
        ipureintro; exact View.read_writes_of_cover _ _ _ _ _ (cover1_C_4 c _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4_B t (fun h => h0 ((hcond1_0 t).mp h)) ((hcond1_1 t).mpr h1) (fun h => h2 ((hcond1_2 t).mp h))], after1_4]
        rw [outsAt1_B V c t h0 h1 h2]
        simp only [before1_4_B V c t h0 h1 h2]
        unfold out1_B_2 out1_B_3 out1_B_4; (try dsimp only)
        iintro ⟨HΦ, Ho, ⟨%d0, H0⟩, ⟨%d1, H1⟩, ⟨%d2, H2⟩, ⟨%d3, H3⟩, ⟨%d4, H4⟩⟩
        iapply ((kernelRun1_B c (grid1.coords t) _ _ _ _ _ _ _ _ _ _ (fun h => h0 ((hcond1_0 t).mp h)) ((hcond1_1 t).mpr h1) (fun h => h2 ((hcond1_2 t).mp h)) (iblk1 V c 0 t) (iblk1 V c 1 t) _).2.2.2 Set.univ _)
        isplitl [H0]; · iexact H0
        isplitl [H1]; · iexact H1
        isplitl [H2]; · iexists _; iexact H2
        isplitl [H3]; · iexists _; iexact H3
        isplitl [H4]; · iexact H4
        iintro ⟨H0, H1, ⟨%e2, H2⟩, ⟨%e3, H3⟩, ⟨%e4, H4⟩⟩
        isplitl [HΦ]; · iexact HΦ
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover1_B_2 c _ _ _ _ _ _ _ _ _ _ _ _ _ _ _ _ _)
        isplitl [H3]
        · unfold owns; iexists _; isplitr
          swap; · iexact H3
          ipureintro; exact View.read_writes_of_cover _ _ _ _ _ (cover1_B_3 c _ _ _ _ _ _ _ _ _ _ _ _ _ _ _ _ _)
        unfold owns; iexists _; isplitr
        swap; · iexact H4
        ipureintro; exact View.read_writes_of_cover _ _ _ _ _ (cover1_B_4 c _ _ _ _ _ _ _ _ _ _ _ _ _ _ _ _ _)
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Fr

end
-- ==== Proof.Fr.IdealDec.lean ====
/- The third region (the two transposed convolutions): its windows, its body run by the printed skeleton, its proof data and its body obligation. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Fr.Scratch
public import Idealize.ShloMosaic.Lib.Pipeline.FrameBody
public import Idealize.ShloMosaic.Lib.Pipeline.TableIdle
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # REGION 2 of @main: custom_call 2, `cc2__dec_body` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 5, through which its contents are stated (`View.read_writes_of_cover`: the
    choice does not matter). -/
abbrev VO2_5 : View sig .tc .vmem S1x12544x4 .f32 := (Memref.whole cc2_stg5_0 : Memref sig .tc .vmem S1x12544x4 .f32).view
/-- Each window's current staging memref at point `t`, spelled as the pipeline passes it (`bodyAt2`), and its wholeness. -/
abbrev ms2_0 (t : Fin cfg2.N) : Memref sig .tc .vmem S1x58x58x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S4x4x32x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S3x3x64x4 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x12544x4 .f32 := win2_5.stage (cfg2.slots t 5)
abbrev hs2_5 (t : Fin cfg2.N) : (ms2_5 t).IsWhole := hstage2_5 ((cfg2.slots t 5).cast nbuf2_5)
/-- The scratch operands: whole scoped buffers of the kernel's own, passed beside the windows. -/
abbrev scM2_0 : Memref sig .tc .vmem S114x114x64 .f32 := Memref.whole cc2_scratch0

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ d, owns (c : Thread nD τ) scM2_0 fullShare d) ∗ (∃ f : Buf (Elt F) ((c : Thread nD τ).loc cc1_stg4_0), ((c : Thread nD τ).loc cc1_stg4_0) ↦{fullShare} f)) ∗ (∃ r, prngReg c r)) := by
  unfold Pipeline.ΦA; rw [scopedRest2_eq]; simp only [scM2_0, owns_whole]; try rfl

/-- The rectangles the first half stores in the scratch, last first: the four edges last, before them the tiles. -/
def scrRects2 : List (Rect S114x114x64) :=
  [⟨⟨![86, 2, 0], ![14, 56, 64], ![2, 2, 1], inb_S114x114x64_S14x56x64_86_2_0_s_2_2_1⟩, spos_2_2_1⟩,
   ⟨⟨![58, 2, 0], ![14, 56, 64], ![2, 2, 1], inb_S114x114x64_S14x56x64_58_2_0_s_2_2_1⟩, spos_2_2_1⟩,
   ⟨⟨![30, 2, 0], ![14, 56, 64], ![2, 2, 1], inb_S114x114x64_S14x56x64_30_2_0_s_2_2_1⟩, spos_2_2_1⟩,
   ⟨⟨![2, 2, 0], ![14, 56, 64], ![2, 2, 1], inb_S114x114x64_S14x56x64_2_2_0_s_2_2_1⟩, spos_2_2_1⟩,
   ⟨⟨![86, 1, 0], ![14, 56, 64], ![2, 2, 1], inb_S114x114x64_S14x56x64_86_1_0_s_2_2_1⟩, spos_2_2_1⟩,
   ⟨⟨![58, 1, 0], ![14, 56, 64], ![2, 2, 1], inb_S114x114x64_S14x56x64_58_1_0_s_2_2_1⟩, spos_2_2_1⟩,
   ⟨⟨![30, 1, 0], ![14, 56, 64], ![2, 2, 1], inb_S114x114x64_S14x56x64_30_1_0_s_2_2_1⟩, spos_2_2_1⟩,
   ⟨⟨![2, 1, 0], ![14, 56, 64], ![2, 2, 1], inb_S114x114x64_S14x56x64_2_1_0_s_2_2_1⟩, spos_2_2_1⟩,
   ⟨⟨![85, 2, 0], ![14, 56, 64], ![2, 2, 1], inb_S114x114x64_S14x56x64_85_2_0_s_2_2_1⟩, spos_2_2_1⟩,
   ⟨⟨![57, 2, 0], ![14, 56, 64], ![2, 2, 1], inb_S114x114x64_S14x56x64_57_2_0_s_2_2_1⟩, spos_2_2_1⟩,
   ⟨⟨![29, 2, 0], ![14, 56, 64], ![2, 2, 1], inb_S114x114x64_S14x56x64_29_2_0_s_2_2_1⟩, spos_2_2_1⟩,
   ⟨⟨![1, 2, 0], ![14, 56, 64], ![2, 2, 1], inb_S114x114x64_S14x56x64_1_2_0_s_2_2_1⟩, spos_2_2_1⟩,
   ⟨⟨![85, 1, 0], ![14, 56, 64], ![2, 2, 1], inb_S114x114x64_S14x56x64_85_1_0_s_2_2_1⟩, spos_2_2_1⟩,
   ⟨⟨![57, 1, 0], ![14, 56, 64], ![2, 2, 1], inb_S114x114x64_S14x56x64_57_1_0_s_2_2_1⟩, spos_2_2_1⟩,
   ⟨⟨![29, 1, 0], ![14, 56, 64], ![2, 2, 1], inb_S114x114x64_S14x56x64_29_1_0_s_2_2_1⟩, spos_2_2_1⟩,
   ⟨⟨![1, 1, 0], ![14, 56, 64], ![2, 2, 1], inb_S114x114x64_S14x56x64_1_1_0_s_2_2_1⟩, spos_2_2_1⟩,
   Rect.unit (s := S114x114x64) ![0, 113, 0] ![114, 1, 64] inb_S114x114x64_S114x1x64_0_113_0,
   Rect.unit (s := S114x114x64) ![0, 0, 0] ![114, 1, 64] inb_S114x114x64_S114x1x64_0_0_0,
   Rect.unit (s := S114x114x64) ![113, 0, 0] ![1, 114, 64] inb_S114x114x64_S1x114x64_113_0_0,
   Rect.unit (s := S114x114x64) ![0, 0, 0] ![1, 114, 64] inb_S114x114x64_S1x114x64_0_0_0]

set_option maxHeartbeats 4000000 in
/-- They cover it. -/
theorem scrRects2_cover (y : S114x114x64.Idx) : ∃ r ∈ scrRects2, y ∈ r.set := by
  have h0 : (y 0).val < 114 := (y 0).isLt
  have h1 : (y 1).val < 114 := (y 1).isLt
  have h2 : (y 2).val < 64 := (y 2).isLt
  simp only [scrRects2, List.exists_mem_cons_iff]
  by_cases a0 : (y 0).val = 0 ∨ (y 0).val = 113 ∨ (y 1).val = 0 ∨ (y 1).val = 113
  · (iterate 16 apply Or.inr)
    rcases a0 with a | a | a | a
    · (iterate 3 apply Or.inr); exact .inl (Scratch.mem_unit3 _ _ (by omega))
    · (iterate 2 apply Or.inr); exact .inl (Scratch.mem_unit3 _ _ (by omega))
    · (iterate 1 apply Or.inr); exact .inl (Scratch.mem_unit3 _ _ (by omega))
    · exact .inl (Scratch.mem_unit3 _ _ (by omega))
  · obtain ⟨t, ht⟩ : ∃ t, t = ((y 0).val - 1) / 28 := ⟨_, rfl⟩
    rcases Nat.mod_two_eq_zero_or_one (y 0).val with ha | ha
    · rcases Nat.mod_two_eq_zero_or_one (y 1).val with hc | hc
      · skip
        rcases (by omega : t = 0 ∨ t = 1 ∨ t = 2 ∨ t = 3) with rfl | rfl | rfl | rfl
        · (iterate 3 apply Or.inr); exact .inl (Scratch.mem_strided3 _ _ (by omega))
        · (iterate 2 apply Or.inr); exact .inl (Scratch.mem_strided3 _ _ (by omega))
        · (iterate 1 apply Or.inr); exact .inl (Scratch.mem_strided3 _ _ (by omega))
        · skip; exact .inl (Scratch.mem_strided3 _ _ (by omega))
      · (iterate 4 apply Or.inr)
        rcases (by omega : t = 0 ∨ t = 1 ∨ t = 2 ∨ t = 3) with rfl | rfl | rfl | rfl
        · (iterate 3 apply Or.inr); exact .inl (Scratch.mem_strided3 _ _ (by omega))
        · (iterate 2 apply Or.inr); exact .inl (Scratch.mem_strided3 _ _ (by omega))
        · (iterate 1 apply Or.inr); exact .inl (Scratch.mem_strided3 _ _ (by omega))
        · skip; exact .inl (Scratch.mem_strided3 _ _ (by omega))
    · (iterate 8 apply Or.inr); rcases Nat.mod_two_eq_zero_or_one (y 1).val with hc | hc
      · skip
        rcases (by omega : t = 0 ∨ t = 1 ∨ t = 2 ∨ t = 3) with rfl | rfl | rfl | rfl
        · (iterate 3 apply Or.inr); exact .inl (Scratch.mem_strided3 _ _ (by omega))
        · (iterate 2 apply Or.inr); exact .inl (Scratch.mem_strided3 _ _ (by omega))
        · (iterate 1 apply Or.inr); exact .inl (Scratch.mem_strided3 _ _ (by omega))
        · skip; exact .inl (Scratch.mem_strided3 _ _ (by omega))
      · (iterate 4 apply Or.inr)
        rcases (by omega : t = 0 ∨ t = 1 ∨ t = 2 ∨ t = 3) with rfl | rfl | rfl | rfl
        · (iterate 3 apply Or.inr); exact .inl (Scratch.mem_strided3 _ _ (by omega))
        · (iterate 2 apply Or.inr); exact .inl (Scratch.mem_strided3 _ _ (by omega))
        · (iterate 1 apply Or.inr); exact .inl (Scratch.mem_strided3 _ _ (by omega))
        · skip; exact .inl (Scratch.mem_strided3 _ _ (by omega))

-- (the run's proof term is large: the definition's epilogue — `abstractNestedProofs` — walks it past the default budget)
set_option maxHeartbeats 4000000 in
/-- The pieces the body's first half stores in the scratch (`LT`), and, for the contents `Y` those
    pieces leave in the scratch whatever was there before, what the second half's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun2_A (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) :
    Σ' (LT : List (View.Piece (Elt F) S114x114x64 .f32)), ∀ (Y : Vec F S114x114x64 .f32), { L5 : List (View.Piece (Elt F) S1x12544x4 .f32) //
      ∀ (E : Set ℕ) (K : PUnit → sProp 𝕄),
        iprop((∀ f, (arg7.view.loc (c : Thread nD τ) ↦[arg7.view.set]{fullShare} arg7.view.writes (Elt F) f LT) -∗ (arg7.view.loc (c : Thread nD τ) ↦[arg7.view.set]{fullShare} harg7.unread Y)) ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ d, owns (c : Thread nD τ) arg7 fullShare d)) -∗ K ⟨⟩))
          ⊢ wp frame (wpE (defs₀ (F := F)) Variants.none c none) E (cc2__dec_body i arg1 harg1 arg2 harg2 arg3 harg3 arg4 harg4 arg5 harg5 arg6 harg6 arg7 harg7) K } := by
  refine ⟨?_, fun Y => ⟨?_, fun E K => ?run⟩⟩
  case run =>
    simp only [cc2__dec_body_eq_skeleton]; unfold cc2__dec_body_skel
    simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton]
    unfold owns
    iintro ⟨HY, ⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    set_option sl_exec.stopBefore "k2_part23" in sl_exec
    simp only [k2_part23_eq_skeleton]; unfold k2_part23_skel
    set_option sl_exec.maxSteps 7 in sl_exec
    ispecialize HY $$ %fs0
    ihave HS1 := HY $$ [HS0]
    · iexact HS0
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _, _; isplitr; swap; · iexact HS1
    ipureintro; rfl

/-- The pieces the first half's stores leave in the scratch cover it. -/
theorem scrCover2 (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) (y : S114x114x64.Idx) :
    ∃ pc ∈ (kernelRun2_A c i arg1 harg1 arg2 harg2 arg3 harg3 arg4 harg4 arg5 harg5 arg6 harg6 arg7 harg7 x0 x1 x2 x3 x4).1, y ∈ pc.1.set := by
  obtain ⟨r, hr, hy⟩ := scrRects2_cover y
  have h : (kernelRun2_A c i arg1 harg1 arg2 harg2 arg3 harg3 arg4 harg4 arg5 harg5 arg6 harg6 arg7 harg7 x0 x1 x2 x3 x4).1.map Sigma.fst = scrRects2 := rfl
  rw [← h, List.mem_map] at hr
  obtain ⟨p, hp, rfl⟩ := hr
  exact ⟨p, hp, hy⟩

/-- What the first half leaves in the scratch. -/
def scr2 (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) : Vec F S114x114x64 .f32 :=
  View.canon (kernelRun2_A c i arg1 harg1 arg2 harg2 arg3 harg3 arg4 harg4 arg5 harg5 arg6 harg6 arg7 harg7 x0 x1 x2 x3 x4).1

/-- The first half's stores leave the scratch at `scr2`, whatever it held. -/
theorem scr2_writes (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) (f : arg7.view.ty.Contents (Elt F)) :
    arg7.view.writes (Elt F) f (kernelRun2_A c i arg1 harg1 arg2 harg2 arg3 harg3 arg4 harg4 arg5 harg5 arg6 harg6 arg7 harg7 x0 x1 x2 x3 x4).1
      = harg7.unread (scr2 c i arg1 harg1 arg2 harg2 arg3 harg3 arg4 harg4 arg5 harg5 arg6 harg6 arg7 harg7 x0 x1 x2 x3 x4) :=
  harg7.eq_unread (View.read_writes_eq_canon _ _ _ (scrCover2 c i arg1 harg1 arg2 harg2 arg3 harg3 arg4 harg4 arg5 harg5 arg6 harg6 arg7 harg7 x0 x1 x2 x3 x4))

/-- The run's pieces for output 5 tile its block (4 stores of `S1x3136x4`, checked by the kernel's evaluation: Lib/Ring.lean `Piece.tiledL`, linear in the pieces, through a loop's `@[irreducible]` trip theorem too), so they cover it. -/
theorem cover2_A_5 (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) (y : S1x12544x4.Idx) :
    ∃ pc ∈ ((kernelRun2_A c i arg1 harg1 arg2 harg2 arg3 harg3 arg4 harg4 arg5 harg5 arg6 harg6 arg7 harg7 x0 x1 x2 x3 x4).2 (scr2 c i arg1 harg1 arg2 harg2 arg3 harg3 arg4 harg4 arg5 harg5 arg6 harg6 arg7 harg7 x0 x1 x2 x3 x4)).1, y ∈ pc.1.set :=
  View.cover_of_tiledL ((kernelRun2_A c i arg1 harg1 arg2 harg2 arg3 harg3 arg4 harg4 arg5 harg5 arg6 harg6 arg7 harg7 x0 x1 x2 x3 x4).2 (scr2 c i arg1 harg1 arg2 harg2 arg3 harg3 arg4 harg4 arg5 harg5 arg6 harg6 arg7 harg7 x0 x1 x2 x3 x4)).1 S1x3136x4.size (by sl_kernel_rfl) y

/-- What the run leaves in output 5's staging buffer: its pieces read back over junk. -/
def out2_A_5 (c : Dev nD) (i : grid2.Coords) (arg1 : Memref sig .tc .vmem S1x58x58x32 .f32) (harg1 : arg1.IsWhole) (arg2 : Memref sig .tc .vmem S4x4x32x64 .f32) (harg2 : arg2.IsWhole) (arg3 : Memref sig .tc .vmem S1x64 .f32) (harg3 : arg3.IsWhole) (arg4 : Memref sig .tc .vmem S3x3x64x4 .f32) (harg4 : arg4.IsWhole) (arg5 : Memref sig .tc .vmem S1x1 .f32) (harg5 : arg5.IsWhole) (arg6 : Memref sig .tc .vmem S1x12544x4 .f32) (harg6 : arg6.IsWhole) (arg7 : Memref sig .tc .vmem S114x114x64 .f32) (harg7 : arg7.IsWhole)
    (x0 : Vec F S1x58x58x32 .f32) (x1 : Vec F S4x4x32x64 .f32) (x2 : Vec F S1x64 .f32) (x3 : Vec F S3x3x64x4 .f32) (x4 : Vec F S1x1 .f32) : Vec F S1x12544x4 .f32 :=
  VO2_5.read (Elt F) (VO2_5.writes (Elt F) VO2_5.junk ((kernelRun2_A c i arg1 harg1 arg2 harg2 arg3 harg3 arg4 harg4 arg5 harg5 arg6 harg6 arg7 harg7 x0 x1 x2 x3 x4).2 (scr2 c i arg1 harg1 arg2 harg2 arg3 harg3 arg4 harg4 arg5 harg5 arg6 harg6 arg7 harg7 x0 x1 x2 x3 x4)).1)

/-! ## What the outputs hold after each point -/

/-- What the outputs' staging buffers hold after the body at point `t`: the run's contents at
    the point's memrefs and input blocks. -/
def outsAt2 (c : Dev nD) (t : Fin cfg2.N) : Vec F S1x12544x4 .f32 :=
  out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (iblk2 V c 4 t)

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

/-- The body at any point: the inputs' memrefs hold their blocks (`before2_W`); so the
    run applies; the invariant hands the body its scratch buffers at some contents (and the generator register) and takes them back at some contents (`PhiA_eq`); the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  rw [show (dat2 V c).Φ t.castSucc = Pipeline.ΦA spec2 c from rfl, PhiA2_eq]
  unfold outsAt2
  unfold out2_A_5
  iintro ⟨⟨⟨HR0, HR1, HR2, HR3, HR4, HR5, HR6, HR7, HR8, HR9, HR10, HR11, HR12, HR13, HR14, HR15, HS0, HR17⟩, Hg⟩, Ho, ⟨%d0, H0⟩, ⟨%d1, H1⟩, ⟨%d2, H2⟩, ⟨%d3, H3⟩, ⟨%d4, H4⟩, ⟨%d5, H5⟩⟩
  iapply (((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (iblk2 V c 4 t)).2 (scr2 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (iblk2 V c 0 t) (iblk2 V c 1 t) (iblk2 V c 2 t) (iblk2 V c 3 t) (iblk2 V c 4 t))).2 Set.univ _)
  isplitr
  · iintro %f HT; rw [← scr2_writes]; iexact HT
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, HS0⟩
  isplitl [HR0 HR1 HR2 HR3 HR4 HR5 HR6 HR7 HR8 HR9 HR10 HR11 HR12 HR13 HR14 HR15 HS0 HR17 Hg]
  · isplitl [HR0 HR1 HR2 HR3 HR4 HR5 HR6 HR7 HR8 HR9 HR10 HR11 HR12 HR13 HR14 HR15 HS0 HR17]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      isplitl [HR15]
      · iexact HR15
      isplitl [HS0]
      · iexact HS0
      iexact HR17
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2_A_5 c _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Fr

end
-- ==== Proof.Fr.IdealRun.lean ====
/- The whole run: @main as host stretches and the three regions, what each buffer holds at every boundary, and the final state read at the arguments and the results. -/
module

public import proofs.«01_k».proof.Proof.Fr.IdealEnc
public import proofs.«01_k».proof.Proof.Fr.IdealVq
public import proofs.«01_k».proof.Proof.Fr.IdealDec

@[expose] public section

-- membership in a rectangle of long axes recurses once per coordinate
set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v1]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v44]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v46, main_v47, main_v48, main_v49, main_c_0]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-- No operation of `hostOps2_1` allocates a buffer. -/
theorem hostOps2_1_fresh : (hostOps2_1 : List (HloOp τ sig (Elt F))).Forall fun op => op.fresh = ∅ := by
  simp only [List.Forall]; repeat' constructor
/-- The reference each operation of `hostOps2_1` writes, in order. -/
abbrev hostOps2_1_W : List (Ref sig .tc) := [main_call1_v0, main_v50]
theorem hostOps2_1_writes : (hostOps2_1 : List (HloOp τ sig (Elt F))).Forall fun op => op.writes ⊆ (hostOps2_1_W.map (Proc.devRef (τ := τ) .tc)).toFinset :=
  StableHlo.forall_writes_sub_of_map rfl
/-- `hostOps2_1` writes none of the argument arrays (checked: each argument against each reference it writes). -/
theorem hostOps2_1_args : ∀ a ∈ argRefs, a ∉ hostOps2_1_W := ListAll.forall_mem_of_all_decide (by decide +kernel)

/-- No operation of `hostOps2_2` allocates a buffer. -/
theorem hostOps2_2_fresh : (hostOps2_2 : List (HloOp τ sig (Elt F))).Forall fun op => op.fresh = ∅ := by
  simp only [List.Forall]; repeat' constructor
/-- The reference each operation of `hostOps2_2` writes, in order. -/
abbrev hostOps2_2_W : List (Ref sig .tc) := [main_v51, main_cst, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147]
theorem hostOps2_2_writes : (hostOps2_2 : List (HloOp τ sig (Elt F))).Forall fun op => op.writes ⊆ (hostOps2_2_W.map (Proc.devRef (τ := τ) .tc)).toFinset :=
  StableHlo.forall_writes_sub_of_map rfl
/-- `hostOps2_2` writes none of the argument arrays (checked: each argument against each reference it writes). -/
theorem hostOps2_2_args : ∀ a ∈ argRefs, a ∉ hostOps2_2_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v149, main_v150, main_v151]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1` (region 1's entry). -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- The same read at the TensorCore's references (what region 1's proof data take). -/
abbrev V5 : (c : Dev nD) → (b : Ref sig .tc) → Buf (Elt F) ((c : Thread nD τ).loc b) := fun c b => W5 m ρ c b
/-- At region 1's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
/-- A reference that is none of region 1's OUTPUT arrays keeps its entry contents across it: an input window's
    array is never written back (`Dat.arrAt_in`, `A_eq1`); any other buffer is left as is. -/
theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)
/-- The same read at the TensorCore's references (region 1's exit contents). -/
abbrev V6 : (c : Dev nD) → (b : Ref sig .tc) → Buf (Elt F) ((c : Thread nD τ).loc b) := fun c b => W6 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After `hostOps2`. -/
abbrev W7 : Dev nD → Valuation τ sig (Elt F) := fun c => StableHlo.after hostOps2 (W6 m ρ c)
/-- A reference `hostOps2` does not write keeps its contents across it. -/
theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)
/-- After `hostOps2_1`. -/
abbrev W8 : Dev nD → Valuation τ sig (Elt F) := fun c => StableHlo.after hostOps2_1 (W7 m ρ c)
/-- A reference `hostOps2_1` does not write keeps its contents across it. -/
theorem W8_of (c : Dev nD) (r : Ref sig .tc) (h : r ∉ hostOps2_1_W) : W8 m ρ c (Proc.devRef .tc r) = W7 m ρ c (Proc.devRef .tc r) :=
  StableHlo.after_of_writes_sub hostOps2_1 _ hostOps2_1_writes h
theorem W8_args (c : Dev nD) : ∀ a ∈ argRefs, W8 m ρ c (Proc.devRef .tc a) = m ((c : Thread nD τ).loc a) :=
  fun a ha => (W8_of m ρ c a (hostOps2_1_args a ha)).trans (W7_args m ρ c a ha)
/-- After `hostOps2_2` (region 2's entry). -/
abbrev W9 : Dev nD → Valuation τ sig (Elt F) := fun c => StableHlo.after hostOps2_2 (W8 m ρ c)
/-- A reference `hostOps2_2` does not write keeps its contents across it. -/
theorem W9_of (c : Dev nD) (r : Ref sig .tc) (h : r ∉ hostOps2_2_W) : W9 m ρ c (Proc.devRef .tc r) = W8 m ρ c (Proc.devRef .tc r) :=
  StableHlo.after_of_writes_sub hostOps2_2 _ hostOps2_2_writes h
theorem W9_args (c : Dev nD) : ∀ a ∈ argRefs, W9 m ρ c (Proc.devRef .tc a) = m ((c : Thread nD τ).loc a) :=
  fun a ha => (W9_of m ρ c a (hostOps2_2_args a ha)).trans (W8_args m ρ c a ha)
/-- The same read at the TensorCore's references (what region 2's proof data take). -/
abbrev V9 : (c : Dev nD) → (b : Ref sig .tc) → Buf (Elt F) ((c : Thread nD τ).loc b) := fun c b => W9 m ρ c b
/-- At region 2's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec2 c (W9 m ρ c) fun w => (dat2 (V9 m ρ) c).arrAt w cfg2.N
theorem W10_arr (c : Dev nD) (w : Fin cfg2.W) :
    W10 m ρ c (Proc.devRef .tc (Pipeline.arrRef spec2 w)) = (dat2 (V9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
/-- A reference that is none of region 2's OUTPUT arrays keeps its entry contents across it: an input window's
    array is never written back (`Dat.arrAt_in`, `A_eq2`); any other buffer is left as is. -/
theorem W10_of (c : Dev nD) (r : Ref sig .tc) (h : ∀ w : Fin cfg2.W, Pipeline.arrRef spec2 w = r → (cfg2.win w).isOut = false) :
    W10 m ρ c (Proc.devRef .tc r) = W9 m ρ c (Proc.devRef .tc r) := by
  by_cases hw : ∃ w : Fin cfg2.W, Pipeline.arrRef spec2 w = r
  · obtain ⟨w, rfl⟩ := hw
    exact (W10_arr m ρ c w).trans (((dat2 (V9 m ρ) c).arrAt_in w (h w rfl) _).trans (A_eq2 (V9 m ρ) c w))
  · exact W10_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn2 a ha)).trans (W9_args m ρ c a ha)
/-- The same read at the TensorCore's references (region 2's exit contents). -/
abbrev V10 : (c : Dev nD) → (b : Ref sig .tc) → Buf (Elt F) ((c : Thread nD τ).loc b) := fun c b => W10 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V9 m ρ) c).arrAt w cfg2.N = V10 m ρ c (Pipeline.arrRef spec2 w) :=
  (W10_arr m ρ c w).symm
theorem hrest2 (c : Dev nD) : ∀ b, b ∉ Finset.univ.image (Pipeline.arrRef spec2) → V10 m ρ c b = V9 m ρ c b :=
  fun b hb => W10_of_ne m ρ c b fun w e => hb (Finset.mem_image.mpr ⟨w, Finset.mem_univ _, e⟩)

/-- After `hostOps3`. -/
abbrev W11 : Dev nD → Valuation τ sig (Elt F) := fun c => StableHlo.after hostOps3 (W10 m ρ c)
/-- A reference `hostOps3` does not write keeps its contents across it. -/
theorem W11_of (c : Dev nD) (r : Ref sig .tc) (h : r ∉ hostOps3_W) : W11 m ρ c (Proc.devRef .tc r) = W10 m ρ c (Proc.devRef .tc r) :=
  StableHlo.after_of_writes_sub hostOps3 _ hostOps3_writes h
theorem W11_args (c : Dev nD) : ∀ a ∈ argRefs, W11 m ρ c (Proc.devRef .tc a) = m ((c : Thread nD τ).loc a) :=
  fun a ha => (W11_of m ρ c a (hostOps3_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)
theorem W11_main_arg4 (c : Dev nD) : W11 m ρ c (Proc.devRef .tc main_arg4) = m ((c : Thread nD τ).loc main_arg4) :=
  W11_args m ρ c main_arg4 (by decide)
theorem W11_main_arg5 (c : Dev nD) : W11 m ρ c (Proc.devRef .tc main_arg5) = m ((c : Thread nD τ).loc main_arg5) :=
  W11_args m ρ c main_arg5 (by decide)
theorem W11_main_arg6 (c : Dev nD) : W11 m ρ c (Proc.devRef .tc main_arg6) = m ((c : Thread nD τ).loc main_arg6) :=
  W11_args m ρ c main_arg6 (by decide)
theorem W11_main_arg7 (c : Dev nD) : W11 m ρ c (Proc.devRef .tc main_arg7) = m ((c : Thread nD τ).loc main_arg7) :=
  W11_args m ρ c main_arg7 (by decide)
theorem W11_main_arg8 (c : Dev nD) : W11 m ρ c (Proc.devRef .tc main_arg8) = m ((c : Thread nD τ).loc main_arg8) :=
  W11_args m ρ c main_arg8 (by decide)
theorem W11_main_arg9 (c : Dev nD) : W11 m ρ c (Proc.devRef .tc main_arg9) = m ((c : Thread nD τ).loc main_arg9) :=
  W11_args m ρ c main_arg9 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (V9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V9 m ρ c) (A_eq2 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V9 m ρ c) (V10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .region (reg2 m ρ),
    .host (hseg hostOps3 hostOps3_sub hostOps3_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every weakly fair execution of @main terminates without a
    fault, and at every final state each unscoped buffer holds the last boundary's contents `W11` and every semaphore
    counter is zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W11 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨h, funext fun g => hz g (.inr (no_unscoped g.2))⟩)

/-- The run read at the argument arrays, which end as launched, and at the three results. -/
theorem frame : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)))
      ∧ r.2.sem = fun _ => 0) :=
  (θ_run defs _ _).mono (fun _ h => ⟨fun c => ⟨(h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c),
    (h.1 c _ (mem_uc main_arg7 (by decide))).trans (W11_main_arg7 m ρ c),
    (h.1 c _ (mem_uc main_arg8 (by decide))).trans (W11_main_arg8 m ρ c),
    (h.1 c _ (mem_uc main_arg9 (by decide))).trans (W11_main_arg9 m ρ c)⟩, h.2⟩) (run m ρ)

/-- The run read at the three results, at the last boundary's contents, and at the argument arrays. -/
theorem results : θ_run defs (onTc (τ := τ) (main (F := F))) ⟨m, fun _ => 0, ρ⟩ (fun r => ∀ c : Dev nD,
      r.2.mem ((c.tc : Thread nD τ).loc main_v151) = W11 m ρ c (Proc.devRef .tc main_v151)
      ∧ r.2.mem ((c.tc : Thread nD τ).loc main_v48) = W11 m ρ c (Proc.devRef .tc main_v48)
      ∧ r.2.mem ((c.tc : Thread nD τ).loc main_v46) = W11 m ρ c (Proc.devRef .tc main_v46)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h.1 c _ (mem_uc main_v151 (by decide)), h.1 c _ (mem_uc main_v48 (by decide)), h.1 c _ (mem_uc main_v46 (by decide)), (h.1 c _ (mem_uc main_arg0 (by decide))).trans (W11_main_arg0 m ρ c),
    (h.1 c _ (mem_uc main_arg1 (by decide))).trans (W11_main_arg1 m ρ c),
    (h.1 c _ (mem_uc main_arg2 (by decide))).trans (W11_main_arg2 m ρ c),
    (h.1 c _ (mem_uc main_arg3 (by decide))).trans (W11_main_arg3 m ρ c),
    (h.1 c _ (mem_uc main_arg4 (by decide))).trans (W11_main_arg4 m ρ c),
    (h.1 c _ (mem_uc main_arg5 (by decide))).trans (W11_main_arg5 m ρ c),
    (h.1 c _ (mem_uc main_arg6 (by decide))).trans (W11_main_arg6 m ρ c),
    (h.1 c _ (mem_uc main_arg7 (by decide))).trans (W11_main_arg7 m ρ c),
    (h.1 c _ (mem_uc main_arg8 (by decide))).trans (W11_main_arg8 m ρ c),
    (h.1 c _ (mem_uc main_arg9 (by decide))).trans (W11_main_arg9 m ρ c)⟩) (run m ρ)

end Cert.KernelIdeal.Fr

end
-- ==== Proof.RefLine.lean ====
/- The reference's host program as one straight line of operations, found by unification, and what its run leaves. -/
module

public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.ReferenceIdeal.Line

open Cert.ReferenceIdeal Idealize.ShloMosaic Idealize.SL.Sem Idealize.ShloMosaic.StableHlo

variable {F : FTy → Type} [FloatOps F] [Facts]

/-- A host program of the reference. -/
abbrev HostProg (F : FTy → Type) [FloatOps F] [Facts] :=
  Prog (TpuEff nD τ sig (Elt F) (Pipeline.Sig Λ₀ (Fin 0) fun p => (pcfgs (F := F) p).Adm) .tc) PUnit

/-- The arguments of the reference. -/
abbrev argRefs : List (Ref sig .tc) := [main_arg0, main_arg1, main_arg2, main_arg3, main_arg4, main_arg5, main_arg6, main_arg7, main_arg8, main_arg9]

/-- An operation that leaves no content open and writes one buffer, which is no argument. -/
def Writes (op : HloOp τ sig (Elt F)) : Prop := op.fresh = ∅ ∧ ∃ r, op.writes = {Proc.devRef (τ := τ) .tc r} ∧ r ∉ argRefs

/-- `p` runs the operations `ops` in order; each works on device buffers alone, leaves no content open and writes no argument. -/
def IsLine (p : HostProg F) (ops : List (HloOp τ sig (Elt F))) : Prop :=
  p = seq ops ∧ (ops.Forall fun op => op.bufs ⊆ tcRefs τ sig) ∧ ops.Forall Writes

/-- The empty line. -/
theorem IsLine.nil : IsLine (F := F) (pure ⟨⟩) [] := ⟨rfl, trivial, trivial⟩

/-- One operation before a line. -/
theorem IsLine.step {op : HloOp τ sig (Elt F)} {p : HostProg F} {ops : List (HloOp τ sig (Elt F))}
    (hb : op.bufs ⊆ tcRefs τ sig) (hf : Writes op) (h : IsLine p ops) :
    IsLine ((hlo rfl op fun _ => .ret (⟨⟩ : PUnit)) >>= fun _ => p) (op :: ops) :=
  ⟨by rw [h.1]; rfl, (List.forall_cons _ _ _).mpr ⟨hb, h.2.1⟩, (List.forall_cons _ _ _).mpr ⟨hf, h.2.2⟩⟩

/-- One operation alone. -/
theorem IsLine.last {op : HloOp τ sig (Elt F)} (hb : op.bufs ⊆ tcRefs τ sig) (hf : Writes op) :
    IsLine (F := F) (hlo rfl op fun _ => .ret (⟨⟩ : PUnit)) [op] :=
  ⟨by simp only [seq, bind_pure_comp]; exact (bind_pure _).symm, hb, hf⟩

/-- A line before a line. -/
theorem IsLine.call {f p : HostProg F} {l₁ l₂ : List (HloOp τ sig (Elt F))} (h₁ : IsLine f l₁) (h₂ : IsLine p l₂) :
    IsLine (f >>= fun _ => p) (l₁ ++ l₂) :=
  ⟨by rw [h₁.1, h₂.1, seq_append],
   List.forall_iff_forall_mem.mpr fun op h => (List.mem_append.mp h).elim (List.forall_iff_forall_mem.mp h₁.2.1 op) (List.forall_iff_forall_mem.mp h₂.2.1 op),
   List.forall_iff_forall_mem.mpr fun op h => (List.mem_append.mp h).elim (List.forall_iff_forall_mem.mp h₁.2.2 op) (List.forall_iff_forall_mem.mp h₂.2.2 op)⟩

/-- The lines of the two parts of the reference's host program. -/
structure Parts (F : FTy → Type) [FloatOps F] [Facts] where
  l0 : List (HloOp τ sig (Elt F))
  l1 : List (HloOp τ sig (Elt F))
  h0 : ∀ c, IsLine (main_part0 (F := F) c) l0
  h1 : ∀ c, IsLine (main_part1 (F := F) c) l1

set_option maxHeartbeats 0 in
set_option maxRecDepth 100000 in
/-- The parts' lines, found by running through the printed statements. -/
def parts : Parts F := by
  apply Parts.mk
  all_goals (try intro c)
  all_goals (try simp only [main_part0, main_part1, fn_relu.body, fn_argmin.body, fn_one_hot.body])
  all_goals
    repeat' first
      | with_reducible exact IsLine.nil
      | with_reducible apply IsLine.step
      | with_reducible apply IsLine.last
      | with_reducible apply IsLine.call
      | with_reducible exact unary_bufs_sub ..
      | with_reducible exact binary_bufs_sub ..
      | with_reducible exact reshape_bufs_sub ..
      | with_reducible exact nullary_bufs_sub ..
      | exact unary_bufs_sub .. | exact binary_bufs_sub .. | exact reshape_bufs_sub .. | exact nullary_bufs_sub .. | exact quaternary_bufs_sub ..
      | exact ⟨rfl, _, rfl, by decide⟩

/-- The whole program's operations. -/
def ops : List (HloOp τ sig (Elt F)) :=
  parts.l0 ++ parts.l1

/-- The reference's host program runs them. -/
theorem main_line (c : Dev nD) : IsLine (main (F := F) c) ops := by
  unfold main ops
  exact .call (parts.h0 c) (parts.h1 c)

theorem scopedRefs_eq : (Finset.univ.filter fun b : Ref sig .tc => b.isScoped) = ∅ := by decide
theorem scopedSems_eq : (Finset.univ.filter fun sm : SemLoc sig => sm.isScoped .tc) = ∅ := by decide

/-- Every run of the reference ends with each buffer at what the line leaves in it, and every semaphore at zero. -/
theorem run (m : (ℓ : Loc nD τ sig) → Buf (Elt F) ℓ) (ρ : Dev nD → PrngReg) :
    θ_run defs (onTc (τ := τ) (main (F := F))) ⟨m, fun _ => 0, ρ⟩ fun r =>
      (∀ (c : Dev nD) (b : Ref sig .tc), r.2.mem ((c.tc : Thread nD τ).loc b) = after ops (launchContents m c) (Proc.devRef .tc b))
        ∧ r.2.sem = fun _ => 0 :=
  (θ_run defs _ _).mono (fun r h => ⟨h, sem_eq_zero_of_no_sems rfl r.2⟩)
    (run_seq scopedRefs_eq scopedSems_eq defs main (fun _ => ops) (fun c => (main_line c).1) (fun c => (main_line c).2.1) m ρ
      fun c op h => (List.forall_iff_forall_mem.mp (main_line c).2.2 op h).1)

/-- An argument keeps its contents through the line. -/
theorem after_arg (c : Dev nD) {r : Ref sig .tc} (h : r ∈ argRefs) (V : Valuation τ sig (Elt F)) :
    after ops V (Proc.devRef .tc r) = V (Proc.devRef .tc r) :=
  after_of_forall_not_mem ops V fun op ho hb => by
    obtain ⟨-, x, hx, hn⟩ := List.forall_iff_forall_mem.mp (main_line (F := F) c).2.2 op ho
    rw [hx, Finset.mem_singleton] at hb
    exact hn (Proc.devRef_injective _ hb ▸ h)

end Cert.ReferenceIdeal.Line

end
-- ==== Proof.Val.Spec.lean ====
/- The program's mathematics over plain arrays, the common reading of the two programs. -/
module

public import Idealize.ShloMosaic.Lib.Pipeline.ValueKit

@[expose] public section

noncomputable section

namespace Cert.Spec

open Idealize.ShloMosaic Idealize.ShloMosaic.Tactic

/-- An image with a border of one zero on every side. -/
def border {n : ℕ} (f : Fin n → Fin n → EReal) (u v : ℕ) : EReal :=
  if h : (1 ≤ u ∧ u ≤ n) ∧ 1 ≤ v ∧ v ≤ n then f ⟨u - 1, by omega⟩ ⟨v - 1, by omega⟩ else 0

/-- An image with zeros between its points and two around it. -/
def dilate {n : ℕ} (f : Fin n → Fin n → EReal) (u v : ℕ) : EReal :=
  if h : (2 ≤ u ∧ (u - 2) % 2 = 0 ∧ (u - 2) / 2 < n) ∧ 2 ≤ v ∧ (v - 2) % 2 = 0 ∧ (v - 2) / 2 < n then
    f ⟨(u - 2) / 2, by omega⟩ ⟨(v - 2) / 2, by omega⟩ else 0

/-- The convolution of stride two at an output point. -/
def conv {O C n m : ℕ} (w : (⟨4, ![O, C, 4, 4]⟩ : Shape).Idx → EReal) (b : (⟨1, ![O]⟩ : Shape).Idx → EReal)
    (x : Fin C → Fin n → Fin n → EReal) (o : Fin O) (i j : Fin m) : EReal :=
  (∑ c : Fin C, ∑ k : Fin 4, ∑ l : Fin 4, w (ix4 o c k l) * border (x c) (2 * i + k) (2 * j + l)) + b (ix1 o)

/-- The transposed convolution of stride two at an output point. -/
def tconv {O C n m : ℕ} (w : (⟨4, ![O, C, 4, 4]⟩ : Shape).Idx → EReal) (b : (⟨1, ![O]⟩ : Shape).Idx → EReal)
    (x : Fin C → Fin n → Fin n → EReal) (o : Fin O) (i j : Fin m) : EReal :=
  (∑ c : Fin C, ∑ k : Fin 4, ∑ l : Fin 4, w (ix4 o c k l) * dilate (x c) (i + k) (j + l)) + b (ix1 o)

/-- The squared distance of a row to a codebook's row. -/
def sqdist (z : Fin 32 → EReal) (C : (⟨2, ![1024, 32]⟩ : Shape).Idx → EReal) (j : Fin 1024) : EReal :=
  (∑ k, z k * z k) + (∑ k, C (ix2 j k) * C (ix2 j k)) - Ideal.ofBits .f32 1073741824#32 * ∑ k, z k * C (ix2 j k)

/-- `w` is the first place of a least value of `D`. -/
def IsFirst {n : ℕ} (D : Fin n → EReal) (w : BitVec 32) : Prop :=
  ∃ j : Fin n, w = BitVec.ofNat 32 j ∧ ∀ i, D j ≤ D i ∧ (D i = D j → j ≤ i)

theorem IsFirst.unique {n : ℕ} {D : Fin n → EReal} {v w : BitVec 32} (hv : IsFirst D v) (hw : IsFirst D w) : v = w := by
  obtain ⟨i, rfl, hi⟩ := hv
  obtain ⟨j, rfl, hj⟩ := hw
  have e : D i = D j := le_antisymm (hi j).1 (hj i).1
  rw [le_antisymm ((hi j).2 e.symm) ((hj i).2 e)]

/-- The codebook's row a one-hot row picks. -/
def pick (C : (⟨2, ![1024, 32]⟩ : Shape).Idx → EReal) (w : BitVec 32) (k : Fin 32) : EReal :=
  ∑ j : Fin 1024, (if BitVec.ofNat 32 j = w then 1 else 0) * C (ix2 j k)

end Cert.Spec
end
-- ==== Proof.Val.Argmin.lean ====
/- The first place of a least value, as the kernel's fold and as the reference's two-operand reduction find it. -/
module

public import proofs.«01_k».proof.Proof.Gen.ReferenceIdeal
public import proofs.«01_k».proof.Proof.Val.Spec

@[expose] public section

noncomputable section

namespace Cert.Spec

open Idealize.ShloMosaic Idealize.ShloMosaic.Tactic

/-- The kernel's fold finds the first place of a least value. -/
theorem fold_first (D : Fin 1024 → EReal) :
    IsFirst D (Finset.fold IntOp.minsi 2147483647#32
      (fun x : Fin 1024 => if D x = Finset.fold min (⊤ : EReal) (fun x => D x) Finset.univ then BitVec.ofNat 32 (x : ℕ) else 1024#32) Finset.univ) := by
  obtain ⟨j, -, hj⟩ := Finset.exists_min_image Finset.univ (fun j : Fin 1024 => toLex (D j, j)) ⟨0, Finset.mem_univ _⟩
  have hj' : ∀ i, D j ≤ D i ∧ (D i = D j → j ≤ i) := fun i => by
    rcases Prod.Lex.le_iff.mp (hj i (Finset.mem_univ _)) with h | ⟨h, h'⟩
    · exact ⟨le_of_lt h, fun e => absurd h (by simp [e])⟩
    · exact ⟨le_of_eq h, fun _ => h'⟩
  have hm : Finset.fold min (⊤ : EReal) (fun x => D x) Finset.univ = D j :=
    le_antisymm ((Finset.fold_min_le _).mpr (Or.inr ⟨j, Finset.mem_univ _, le_rfl⟩))
      ((Finset.le_fold_min _).mpr ⟨le_top, fun i _ => (hj' i).1⟩)
  rw [hm]
  refine ⟨j, ?_, hj'⟩
  have small : ∀ n : ℕ, n ≤ 1024 → (BitVec.ofNat 32 n).toInt = n := fun n hn => by
    rw [BitVec.toInt_eq_toNat_of_lt, BitVec.toNat_ofNat, Nat.mod_eq_of_lt] <;> (try rw [BitVec.toNat_ofNat]) <;> omega
  refine BitVec.toInt_inj.mp ?_
  rw [← Finset.fold_hom (op := IntOp.minsi) (op' := (min : ℤ → ℤ → ℤ)) (m := BitVec.toInt)]
  · rw [small (j : ℕ) (by omega)]
    refine le_antisymm ((Finset.fold_min_le _).mpr (Or.inr ⟨j, Finset.mem_univ _, ?_⟩)) ((Finset.le_fold_min _).mpr ⟨?_, fun i _ => ?_⟩)
    · rw [if_pos rfl, small (j : ℕ) (by omega)]
    · rw [show (2147483647#32 : BitVec 32).toInt = 2147483647 from by decide]; omega
    · split_ifs with h
      · rw [small (i : ℕ) (by omega)]; exact_mod_cast (hj' i).2 h
      · rw [show (1024#32 : BitVec 32).toInt = 1024 from by decide]; omega
  · intro x y
    unfold IntOp.minsi
    by_cases h : x.toInt < y.toInt
    · rw [if_pos (by simpa [BitVec.slt] using h), min_eq_left (le_of_lt h)]
    · rw [if_neg (by simpa [BitVec.slt] using h), min_eq_right (not_lt.mp h)]

/-- `a` is not after `b`: smaller, or equal and not at a later place. -/
def NotAfter (a b : EReal × BitVec 32) : Prop := a.1 < b.1 ∨ a.1 = b.1 ∧ a.2.toInt ≤ b.2.toInt

theorem NotAfter.refl (a) : NotAfter a a := Or.inr ⟨rfl, le_rfl⟩

theorem NotAfter.trans {a b c} (h : NotAfter a b) (h' : NotAfter b c) : NotAfter a c := by
  rcases h with h | ⟨h, h1⟩ <;> rcases h' with h' | ⟨h', h1'⟩
  · exact Or.inl (h.trans h')
  · exact Or.inl (h' ▸ h)
  · exact Or.inl (h ▸ h')
  · exact Or.inr ⟨h.trans h', h1.trans h1'⟩

/-- The reducer keeps one of its operands, the one not after the other. -/
theorem reducer_spec (a b : EReal × BitVec 32) :
    (Cert.ReferenceIdeal.reducer_argmin_f32_i32 (F := Ideal) a b = a ∨ Cert.ReferenceIdeal.reducer_argmin_f32_i32 (F := Ideal) a b = b)
      ∧ NotAfter (Cert.ReferenceIdeal.reducer_argmin_f32_i32 (F := Ideal) a b) a
      ∧ NotAfter (Cert.ReferenceIdeal.reducer_argmin_f32_i32 (F := Ideal) a b) b := by
  obtain ⟨x, u⟩ := a
  obtain ⟨y, v⟩ := b
  have key : Cert.ReferenceIdeal.reducer_argmin_f32_i32 (F := Ideal) (x, u) (y, v)
      = (if x < y then x else y, if x < y ∨ (x = y ∧ u.toInt < v.toInt) then u else v) := by
    unfold Cert.ReferenceIdeal.reducer_argmin_f32_i32
    dsimp only
    rw [Ideal.cmpf_def, Ideal.cmpf_def, Ideal.cmpf_def]
    unfold Ideal.cmp IntOp.cmpi IntOp.ori IntOp.andi Scalar.select
    by_cases h1 : x < y <;> by_cases h2 : x = y <;> by_cases h3 : u.toInt < v.toInt <;> simp [h1, h2, h3, BitVec.slt]
  rw [key]
  unfold NotAfter
  dsimp only
  by_cases h1 : x < y
  · simp [h1]
  · rw [if_neg h1]
    by_cases h2 : x = y
    · subst h2
      by_cases h3 : u.toInt < v.toInt
      · simp only [h3, lt_irrefl, false_or, and_self, if_true, true_and, le_refl, le_of_lt h3, or_true, true_or]
      · simp only [h3, lt_irrefl, false_or, and_false, if_false, true_and, le_refl, not_lt.mp h3, or_true, and_self]
    · rw [if_neg (by tauto)]
      exact ⟨Or.inr rfl, Or.inl (lt_of_le_of_ne (not_lt.mp h1) (Ne.symm h2)), Or.inr ⟨rfl, le_rfl⟩⟩

/-- A run of the reducer over a list ends at the start or at an element, after none of them. -/
theorem foldl_spec {ι : Type} (g : ι → EReal × BitVec 32) (L : List ι) (a : EReal × BitVec 32) :
    (L.foldl (fun r n => Cert.ReferenceIdeal.reducer_argmin_f32_i32 (F := Ideal) r (g n)) a = a
        ∨ ∃ n ∈ L, L.foldl (fun r n => Cert.ReferenceIdeal.reducer_argmin_f32_i32 (F := Ideal) r (g n)) a = g n)
      ∧ NotAfter (L.foldl (fun r n => Cert.ReferenceIdeal.reducer_argmin_f32_i32 (F := Ideal) r (g n)) a) a
      ∧ ∀ n ∈ L, NotAfter (L.foldl (fun r n => Cert.ReferenceIdeal.reducer_argmin_f32_i32 (F := Ideal) r (g n)) a) (g n) := by
  induction L generalizing a with
  | nil => exact ⟨Or.inl rfl, NotAfter.refl _, fun _ h => absurd h List.not_mem_nil⟩
  | cons x L ih =>
    simp only [List.foldl_cons]
    obtain ⟨h1, h2, h3⟩ := ih (Cert.ReferenceIdeal.reducer_argmin_f32_i32 (F := Ideal) a (g x))
    obtain ⟨k1, k2, k3⟩ := reducer_spec a (g x)
    refine ⟨?_, h2.trans k2, fun n hn => ?_⟩
    · rcases h1 with h1 | ⟨n, hn, h1⟩
      · rcases k1 with k1 | k1
        · exact Or.inl (h1.trans k1)
        · exact Or.inr ⟨x, List.mem_cons_self, h1.trans k1⟩
      · exact Or.inr ⟨n, List.mem_cons_of_mem _ hn, h1⟩
    · rcases List.mem_cons.mp hn with rfl | hn
      · exact h2.trans k3
      · exact h3 n hn

/-- The reference's two-operand reduction finds the first place of a least value. -/
theorem reduce_first {R K : ℕ} (hK : 0 < K) (hK' : K ≤ 1024) (d : FVec Ideal ⟨2, ![R, K]⟩ .f32) (ix : FVec Ideal ⟨0, ![]⟩ .f32) (iy : IVec ⟨0, ![]⟩ 32)
    (hx : ∀ y, ix y = (⊤ : EReal)) (hy : ∀ y, iy y = 0#32)
    (h : (⟨2, ![R, K]⟩ : Shape).ReducesTo [1] ⟨1, ![R]⟩) (hu : 0 < (⟨0, ![]⟩ : Shape).numel) (i : Fin R) :
    IsFirst (fun j : Fin K => d (ix2 i j))
      (Host.argReduce (Cert.ReferenceIdeal.reducer_argmin_f32_i32 (F := Ideal)) d (iotaInDim ⟨2, ![R, K]⟩ 32 1) ix iy h hu (ix1 i)).2 := by
  rw [Ideal.argReduce_eq_reduce2]
  unfold Host.reduce2
  rw [hx, hy]
  have hd : ∀ p : (⟨2, ![R, K]⟩ : Shape).Idx, h.drop p = ix1 i ↔ (p 0 : ℕ) = i := fun p => by
    constructor
    · intro e
      exact congrArg Fin.val (congrFun e 0)
    · intro e
      funext a
      match a with
      | ⟨0, _⟩ => exact Fin.ext e
  have hp : ∀ p : (⟨2, ![R, K]⟩ : Shape).Idx, (p 0 : ℕ) = i → p = ix2 i ⟨(p 1 : ℕ), (p 1).2⟩ := fun p e => by
    funext a
    match a with
    | ⟨0, _⟩ => exact Fin.ext e
    | ⟨1, _⟩ => rfl
  obtain ⟨h1, h2, h3⟩ := foldl_spec (fun n => (d ((⟨2, ![R, K]⟩ : Shape).rowMajor.symm n), iotaInDim ⟨2, ![R, K]⟩ 32 1 ((⟨2, ![R, K]⟩ : Shape).rowMajor.symm n)))
    ((List.finRange (⟨2, ![R, K]⟩ : Shape).numel).filter fun n => h.drop ((⟨2, ![R, K]⟩ : Shape).rowMajor.symm n) = ix1 i) ((⊤ : EReal), 0#32)
  have h4 : ∀ j : Fin K, NotAfter _ (d (ix2 i j), BitVec.ofNat 32 j) := fun j => by
    have := h3 ((⟨2, ![R, K]⟩ : Shape).rowMajor (ix2 i j)) (by
      rw [List.mem_filter]
      refine ⟨List.mem_finRange _, ?_⟩
      rw [Equiv.symm_apply_apply]
      exact decide_eq_true ((hd _).mpr rfl))
    simp only [Equiv.symm_apply_apply] at this
    exact this
  have small : ∀ n : ℕ, n ≤ 1024 → (BitVec.ofNat 32 n).toInt = n := fun n hn => by
    rw [BitVec.toInt_eq_toNat_of_lt, BitVec.toNat_ofNat, Nat.mod_eq_of_lt] <;> (try rw [BitVec.toNat_ofNat]) <;> omega
  generalize List.foldl _ _ _ = r at h1 h2 h3 h4
  rcases h1 with h1 | ⟨n, hn, h1⟩
  · subst h1
    have ht : ∀ j : Fin K, d (ix2 i j) = ⊤ := fun j => by
      rcases h4 j with h | ⟨h, -⟩
      · exact absurd h not_top_lt
      · exact h.symm
    exact ⟨⟨0, hK⟩, rfl, fun j => ⟨le_of_eq ((ht _).trans (ht j).symm), fun _ => Nat.zero_le _⟩⟩
  · have hn' : h.drop ((⟨2, ![R, K]⟩ : Shape).rowMajor.symm n) = ix1 i := of_decide_eq_true (List.mem_filter.mp hn).2
    obtain ⟨j', e⟩ : ∃ j' : Fin K, (⟨2, ![R, K]⟩ : Shape).rowMajor.symm n = ix2 i j' := ⟨_, hp _ ((hd _).mp hn')⟩
    rw [e] at h1
    subst h1
    refine ⟨j', rfl, fun j => ?_⟩
    have h5 : d (ix2 i j') < d (ix2 i j) ∨ d (ix2 i j') = d (ix2 i j) ∧ (BitVec.ofNat 32 (j' : ℕ)).toInt ≤ (BitVec.ofNat 32 (j : ℕ)).toInt := h4 j
    rcases h5 with h | ⟨h, h'⟩
    · exact ⟨le_of_lt h, fun e => absurd h (by rw [show d (ix2 i j) = d (ix2 i j') from e]; exact lt_irrefl _)⟩
    · refine ⟨le_of_eq h, fun _ => ?_⟩
      rw [small (j' : ℕ) (by omega), small (j : ℕ) (by omega)] at h'
      exact Fin.le_def.mpr (by exact_mod_cast h')

/-- Positive infinity's word. -/
theorem top_const : Ideal.ofBits .f32 0x7F800000#32 = (⊤ : EReal) := by
  simp [Ideal.ofBits, Ideal.ieee]

/-- The place of each row's least number. -/
def least {R K : ℕ} (d : FVec Ideal ⟨2, ![R, K]⟩ .f32) (h : (⟨2, ![R, K]⟩ : Shape).ReducesTo [1] ⟨1, ![R]⟩) (hu : 0 < (⟨0, ![]⟩ : Shape).numel) :
    IVec ⟨1, ![R]⟩ 32 := fun j =>
  (Host.argReduce (Cert.ReferenceIdeal.reducer_argmin_f32_i32 (F := Ideal)) d (iotaInDim ⟨2, ![R, K]⟩ 32 1)
    (constant (F := Ideal) ⟨0, ![]⟩ .f32 0x7F800000#32) (constantI ⟨0, ![]⟩ 32 0#32) h hu j).2

theorem least_first {R K : ℕ} (hK : 0 < K) (hK' : K ≤ 1024) (d : FVec Ideal ⟨2, ![R, K]⟩ .f32) (h) (hu) (i : Fin R) :
    IsFirst (fun j : Fin K => d (ix2 i j)) (least d h hu (ix1 i)) :=
  reduce_first hK hK' d _ _ (fun _ => top_const) (fun _ => rfl) h hu i

end Cert.Spec
end
-- ==== Proof.Val.RefVq.lean ====
/- The reference's quantiser as functions of arrays, and each of them at an index. -/
module

public import proofs.«01_k».proof.Proof.RefLine
public import proofs.«01_k».proof.Proof.Val.Argmin

@[expose] public section

set_option maxRecDepth 16384

noncomputable section

namespace Cert.ReferenceIdeal.Stage

open Idealize.ShloMosaic Idealize.ShloMosaic.TcCoe Idealize.ShloMosaic.Tactic Idealize.ShloMosaic.StableHlo
open Cert.ReferenceIdeal Cert.ReferenceIdeal.Facts₀ Cert.ReferenceIdeal.Facts Cert.Spec

variable [Facts]

/-- The encoder's output as rows of channels. -/
def rows (z : FVec Ideal S16x32x56x56 .f32) : FVec Ideal S50176x32 .f32 :=
  shapeCast S50176x32 (transpose S16x56x56x32 [0, 2, 3, 1] z transposes_S16x32x56x56_S16x56x56x32_0_2_3_1) shapeCasts_S16x56x56x32_S50176x32

/-- The squared distances. -/
def dists (r : FVec Ideal S50176x32 .f32) (C : FVec Ideal S1024x32 .f32) : FVec Ideal S50176x1024 .f32 :=
  subf (addf
      (broadcastInDim S50176x1024 ![0, 1] bcast_S50176x1_S50176x1024_0_1 (broadcastInDim S50176x1 ![0] bcast_S50176_S50176x1_0
        (Host.reduceAdd (mulf r r) (constant (F := Ideal) S_ .f32 0x00000000#32) reducesTo_S50176x32_S50176_d1 h_S_)))
      (broadcastInDim S50176x1024 ![0, 1] bcast_S1x1024_S50176x1024_0_1 (broadcastInDim S1x1024 ![1] bcast_S1024_S1x1024_1
        (Host.reduceAdd (mulf C C) (constant (F := Ideal) S_ .f32 0x00000000#32) reducesTo_S1024x32_S1024_d1 h_S_))))
    (mulf (broadcastInDim S50176x1024 ![] bcast_S_S50176x1024 (constant (F := Ideal) S_ .f32 0x40000000#32))
      (Host.dotGeneral dot_S50176x32_S32x1024_S50176x1024_1_0_0_1_n_n none r (transpose S32x1024 [1, 0] C transposes_S1024x32_S32x1024_1_0)))

/-- The places of the least distances. -/
def words (d : FVec Ideal S50176x1024 .f32) : IVec S50176 32 := least (R := 50176) (K := 1024) d reducesTo_S50176x1024_S50176_d1 h_S_

/-- The one-hot rows of the places. -/
def onehot (w : IVec S50176 32) : FVec Ideal S50176x1024 .f32 :=
  uitofp .f32 (cmpi .eq (broadcastInDim S50176x1024 ![0, 1] bcast_S50176x1_S50176x1024_0_1 (broadcastInDim S50176x1 ![0] bcast_S50176_S50176x1_0 w))
    (broadcastInDim S50176x1024 ![0, 1] bcast_S1x1024_S50176x1024_0_1 (iotaInDim S1x1024 32 1)))

/-- The codebook's rows at the places. -/
def quant (w : IVec S50176 32) (C : FVec Ideal S1024x32 .f32) : FVec Ideal S16x32x56x56 .f32 :=
  transpose S16x32x56x56 [0, 3, 1, 2]
    (shapeCast S16x56x56x32 (Host.dotGeneral dot_S50176x1024_S1024x32_S50176x32_1_0_0_1_n_n none (onehot w) C) shapeCasts_S50176x32_S16x56x56x32)
    transposes_S16x56x56x32_S16x32x56x56_0_3_1_2

/-- The mean squared error. -/
def meanSq (q z : FVec Ideal S16x32x56x56 .f32) : FVec Ideal S_ .f32 :=
  Host.divf (Host.reduceAdd (mulf (subf q z) (subf q z)) (constant (F := Ideal) S_ .f32 0x00000000#32) reducesTo_S16x32x56x56_S_d0_1_2_3 h_S_)
    (constant (F := Ideal) S_ .f32 0x49C40000#32)

/-- The quantiser's loss. -/
def loss (q z : FVec Ideal S16x32x56x56 .f32) : FVec Ideal S_ .f32 :=
  addf (meanSq q z) (mulf (constant (F := Ideal) S_ .f32 0x3E800000#32) (meanSq q z))

theorem rows_apply (z : FVec Ideal S16x32x56x56 .f32) (r : Fin 50176) (k : Fin 32) :
    rows z (ix2 r k) = z (ix4 ⟨r / 3136, by omega⟩ k ⟨r / 56 % 56, by omega⟩ ⟨r % 56, by omega⟩) := by
  unfold rows
  pointwise []

theorem dists_apply (r : FVec Ideal S50176x32 .f32) (C : FVec Ideal S1024x32 .f32) (i : Fin 50176) (j : Fin 1024) :
    dists r C (ix2 i j) = sqdist (fun k => r (ix2 i k)) C j := by
  unfold dists sqdist
  pointwise []

/-- A comparison's bit as a float. -/
theorem hot (a b : BitVec 32) : (FloatOps.uitofp (F := Ideal) .f32 (IntOp.cmpi .eq a b) : EReal) = if b = a then 1 else 0 := by
  show (((IntOp.cmpi .eq a b).toNat : ℝ) : EReal) = _
  unfold IntOp.cmpi
  by_cases h : b = a
  · subst h; simp
  · rw [if_neg h]
    simp [Ne.symm h]

theorem quant_apply (w : IVec S50176 32) (C : FVec Ideal S1024x32 .f32) (n : Fin 16) (k : Fin 32) (i j : Fin 56) :
    quant w C (ix4 n k i j) = pick C (w (ix1 ⟨n * 3136 + i * 56 + j, by omega⟩)) k := by
  unfold quant onehot pick
  pointwise []
  exact Finset.sum_congr rfl fun x _ => by rw [hot]

/-- The sum of the squared errors. -/
def sqsum (q z : FVec Ideal S16x32x56x56 .f32) : EReal :=
  ∑ n : Fin 16, ∑ k : Fin 32, ∑ i : Fin 56, ∑ j : Fin 56, (q (ix4 n k i j) - z (ix4 n k i j)) * (q (ix4 n k i j) - z (ix4 n k i j))

theorem meanSq_apply (q z : FVec Ideal S16x32x56x56 .f32) (y : S_.Idx) :
    meanSq q z y = Ideal.div (sqsum q z) (Ideal.ofBits .f32 1237581824#32) := by
  unfold meanSq
  pointwise []
  refine congrArg (fun s => Ideal.div s _) ?_
  rw [Ideal.hostReduceAdd_total _ (fun b => Fin.elim0 b), zero_add, sum_idx4]
  rfl

theorem loss_apply (q z : FVec Ideal S16x32x56x56 .f32) (y : S_.Idx) :
    loss q z y = Ideal.div (sqsum q z) (Ideal.ofBits .f32 1237581824#32)
      + Ideal.ofBits .f32 1048576000#32 * Ideal.div (sqsum q z) (Ideal.ofBits .f32 1237581824#32) := by
  rw [← meanSq_apply q z y]
  rfl

theorem words_first (d : FVec Ideal S50176x1024 .f32) (i : Fin 50176) : IsFirst (fun j : Fin 1024 => d (ix2 i j)) (words d (ix1 i)) :=
  least_first (R := 50176) (K := 1024) (by norm_num) (by norm_num) d reducesTo_S50176x1024_S50176_d1 h_S_ i

end Cert.ReferenceIdeal.Stage
end
-- ==== Proof.Val.Patches.lean ====
/- Gathers of rows and of columns, as the reference's patches read them. -/
module

public import Idealize.ShloMosaic.Lib.Pipeline.ValueKit

@[expose] public section

noncomputable section

namespace Cert.Patches

open Idealize.ShloMosaic Idealize.ShloMosaic.Tactic

variable {α : Type}

/-- Four rows per output row of a rank-4 operand: the dimension numbers. -/
abbrev rowDims (B C H W R : ℕ)
    (wf : GatherDims.WF ⟨4, ![B, C, H, W]⟩ ⟨3, ![R, 4, 1]⟩ ⟨5, ![B, C, R, 4, W]⟩ [0, 1, 4] [2] [] [2] [] 2 ![B, C, 1, W]) :
    GatherDims ⟨4, ![B, C, H, W]⟩ ⟨3, ![R, 4, 1]⟩ ⟨5, ![B, C, R, 4, W]⟩ where
  offsetDims := [0, 1, 4]
  collapsedSliceDims := [2]
  operandBatchingDims := []
  startIndicesBatchingDims := []
  startIndexMap := [2]
  indexVectorDim := 2
  sliceSizes := ![B, C, 1, W]
  wf := wf

/-- Four columns per output column of a rank-5 operand: the dimension numbers. -/
abbrev colDims (B C R W S : ℕ)
    (wf : GatherDims.WF ⟨5, ![B, C, R, 4, W]⟩ ⟨3, ![S, 4, 1]⟩ ⟨6, ![B, C, R, 4, S, 4]⟩ [0, 1, 2, 3] [4] [] [4] [] 2 ![B, C, R, 4, 1]) :
    GatherDims ⟨5, ![B, C, R, 4, W]⟩ ⟨3, ![S, 4, 1]⟩ ⟨6, ![B, C, R, 4, S, 4]⟩ where
  offsetDims := [0, 1, 2, 3]
  collapsedSliceDims := [4]
  operandBatchingDims := []
  startIndicesBatchingDims := []
  startIndexMap := [4]
  indexVectorDim := 2
  sliceSizes := ![B, C, R, 4, 1]
  wf := wf

/-- A coordinate the index map does not name is the window's. -/
theorem coord_window {s si t : Shape} (d : GatherDims s si t) {w : ℕ} (j : t.Idx) (idx : IVec si w) (a : Fin s.rank)
    (hs : a ∉ d.startIndexMap) (hb : a ∉ d.operandBatchingDims) (hk : a ∈ d.sKept) :
    d.start j idx a + d.batchCoord j a + d.offCoord j a
      = (j (d.offsetDims[d.sKept.idxOf a]'(by rw [d.offset_length]; exact List.idxOf_lt_length_iff.2 hk))).val := by
  rw [GatherDims.batchCoord_eq_zero _ _ _ hb]
  unfold GatherDims.start GatherDims.offCoord
  rw [dif_neg hs, dif_pos hk]
  omega

/-- A coordinate the index map names is the start index, read signed and clamped. -/
theorem coord_start {s si t : Shape} (d : GatherDims s si t) {w : ℕ} (j : t.Idx) (idx : IVec si w) (a : Fin s.rank)
    (hs : a ∈ d.startIndexMap) (hb : a ∉ d.operandBatchingDims) (hk : a ∉ d.sKept) :
    d.start j idx a + d.batchCoord j a + d.offCoord j a
      = min (idx (d.siIdx j ⟨d.startIndexMap.idxOf a, List.idxOf_lt_length_iff.2 hs⟩)).toInt.toNat (s.size a - d.sliceSizes a) := by
  rw [GatherDims.batchCoord_eq_zero _ _ _ hb, GatherDims.offCoord_eq_zero _ _ _ hk]
  unfold GatherDims.start
  rw [dif_pos hs]
  omega

/-- The rows' gather at an index. -/
theorem row_apply {B C H W R w : ℕ} (hH : 0 < H) (wf) (x : (⟨4, ![B, C, H, W]⟩ : Shape).Idx → α) (idx : IVec ⟨3, ![R, 4, 1]⟩ w)
    (b : Fin B) (c : Fin C) (r : Fin R) (k : Fin 4) (v : Fin W) :
    Host.gather (rowDims B C H W R wf) x idx (ix5 b c r k v)
      = x (ix4 b c ⟨min (idx (ix3 r k 0)).toInt.toNat (H - 1), by omega⟩ v) := by
  unfold Host.gather
  congr 1
  funext a
  refine Fin.ext ?_
  show (rowDims B C H W R wf).start _ idx a + (rowDims B C H W R wf).batchCoord _ a + (rowDims B C H W R wf).offCoord _ a = _
  match a with
  | ⟨0, _⟩ => exact coord_window _ _ _ _ (by simp [Fin.ext_iff]) (by simp) ((GatherDims.mem_sKept _ _).mpr ⟨by simp [Fin.ext_iff], by simp⟩)
  | ⟨1, _⟩ => exact coord_window _ _ _ _ (by simp [Fin.ext_iff]) (by simp) ((GatherDims.mem_sKept _ _).mpr ⟨by simp [Fin.ext_iff], by simp⟩)
  | ⟨2, _⟩ =>
    refine (coord_start _ _ _ _ (by simp [Fin.ext_iff]) (by simp) (fun h => ((GatherDims.mem_sKept _ _).mp h).1 (List.mem_singleton.mpr rfl))).trans ?_
    refine congrArg (fun i => min (idx i).toInt.toNat (H - 1)) ?_
    funext b
    refine Fin.ext ?_
    match b with
    | ⟨0, _⟩ => rfl
    | ⟨1, _⟩ => rfl
    | ⟨2, _⟩ => rfl
  | ⟨3, _⟩ => exact coord_window _ _ _ _ (by simp [Fin.ext_iff]) (by simp) ((GatherDims.mem_sKept _ _).mpr ⟨by simp [Fin.ext_iff], by simp⟩)

/-- The columns' gather at an index. -/
theorem col_apply {B C R W S w : ℕ} (hW : 0 < W) (wf) (x : (⟨5, ![B, C, R, 4, W]⟩ : Shape).Idx → α) (idx : IVec ⟨3, ![S, 4, 1]⟩ w)
    (b : Fin B) (c : Fin C) (r : Fin R) (k : Fin 4) (s : Fin S) (l : Fin 4) :
    Host.gather (colDims B C R W S wf) x idx (ix6 b c r k s l)
      = x (ix5 b c r k ⟨min (idx (ix3 s l 0)).toInt.toNat (W - 1), by omega⟩) := by
  unfold Host.gather
  congr 1
  funext a
  refine Fin.ext ?_
  show (colDims B C R W S wf).start _ idx a + (colDims B C R W S wf).batchCoord _ a + (colDims B C R W S wf).offCoord _ a = _
  match a with
  | ⟨0, _⟩ => exact coord_window _ _ _ _ (by simp [Fin.ext_iff]) (by simp) ((GatherDims.mem_sKept _ _).mpr ⟨by simp [Fin.ext_iff], by simp⟩)
  | ⟨1, _⟩ => exact coord_window _ _ _ _ (by simp [Fin.ext_iff]) (by simp) ((GatherDims.mem_sKept _ _).mpr ⟨by simp [Fin.ext_iff], by simp⟩)
  | ⟨2, _⟩ => exact coord_window _ _ _ _ (by simp [Fin.ext_iff]) (by simp) ((GatherDims.mem_sKept _ _).mpr ⟨by simp [Fin.ext_iff], by simp⟩)
  | ⟨3, _⟩ => exact coord_window _ _ _ _ (by simp [Fin.ext_iff]) (by simp) ((GatherDims.mem_sKept _ _).mpr ⟨by simp [Fin.ext_iff], by simp⟩)
  | ⟨4, _⟩ =>
    refine (coord_start _ _ _ _ (by simp [Fin.ext_iff]) (by simp) (fun h => ((GatherDims.mem_sKept _ _).mp h).1 (List.mem_singleton.mpr rfl))).trans ?_
    refine congrArg (fun i => min (idx i).toInt.toNat (W - 1)) ?_
    funext b
    refine Fin.ext ?_
    match b with
    | ⟨0, _⟩ => rfl
    | ⟨1, _⟩ => rfl
    | ⟨2, _⟩ => rfl

/-- Weights times patches, contracted over the channel and the two taps: the dimension numbers. -/
abbrev patchDims (O C B R S : ℕ)
    (wf : DotDims.WF ⟨4, ![O, C, 4, 4]⟩ ⟨6, ![B, C, R, 4, S, 4]⟩ ⟨4, ![O, B, R, S]⟩ [1, 2, 3] [1, 3, 5] [0] [0, 2, 4] [] []) :
    DotDims ⟨4, ![O, C, 4, 4]⟩ ⟨6, ![B, C, R, 4, S, 4]⟩ ⟨4, ![O, B, R, S]⟩ where
  lhsContracting := [1, 2, 3]
  rhsContracting := [1, 3, 5]
  lhsNonContracting := [0]
  rhsNonContracting := [0, 2, 4]
  lhsBatch := []
  rhsBatch := []
  wf := wf

/-- The contraction's indices are the channel and the two taps. -/
def patchEquiv (O C B R S : ℕ) (wf) : Fin C × Fin 4 × Fin 4 ≃ (patchDims O C B R S wf).contr.Idx where
  toFun p := fun a => match a with
    | ⟨0, _⟩ => p.1
    | ⟨1, _⟩ => p.2.1
    | ⟨2, _⟩ => p.2.2
  invFun k := (k (0 : Fin 3), k (1 : Fin 3), k (2 : Fin 3))
  left_inv _ := rfl
  right_inv k := by
    funext a
    match a with
    | ⟨0, _⟩ => rfl
    | ⟨1, _⟩ => rfl
    | ⟨2, _⟩ => rfl

/-- Weights times patches at an index. -/
theorem patch_apply {O C B R S : ℕ} (wf) (w : FVec Ideal ⟨4, ![O, C, 4, 4]⟩ .f32) (p : FVec Ideal ⟨6, ![B, C, R, 4, S, 4]⟩ .f32)
    (o : Fin O) (b : Fin B) (i : Fin R) (j : Fin S) :
    Host.dotGeneral (F := Ideal) (φ₁ := .f32) (φ₂ := .f32) (patchDims O C B R S wf) none w p (ix4 o b i j)
      = ∑ c : Fin C, ∑ k : Fin 4, ∑ l : Fin 4, w (ix4 o c k l) * p (ix6 b c i k j l) := by
  unfold Host.dotGeneral
  rw [Ideal.dotGeneral_apply]
  rw [← Fintype.sum_equiv (patchEquiv O C B R S wf)
    (fun q => w (ix4 o q.1 q.2.1 q.2.2) * p (ix6 b q.1 i q.2.1 j q.2.2)) _ ?_]
  · simp only [Fintype.sum_prod_type]
  · intro q
    congr 2
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
      | ⟨2, _⟩ => rfl
      | ⟨3, _⟩ => rfl
      | ⟨4, _⟩ => rfl
      | ⟨5, _⟩ => rfl

/-- A convolution written as weights times gathered patches, at an index. -/
theorem conv_apply {O C B H R w : ℕ} (hH : 0 < H) (wr wc wf) (x : FVec Ideal ⟨4, ![B, C, H, H]⟩ .f32)
    (wt : FVec Ideal ⟨4, ![O, C, 4, 4]⟩ .f32) (idx : IVec ⟨3, ![R, 4, 1]⟩ w) (f : ℕ → ℕ → ℕ)
    (hf : ∀ (r : Fin R) (k : Fin 4), (idx (ix3 r k 0)).toInt.toNat = f r k) (hlt : ∀ (r : Fin R) (k : Fin 4), f r k < H)
    (o : Fin O) (b : Fin B) (i j : Fin R) :
    Host.dotGeneral (F := Ideal) (φ₁ := .f32) (φ₂ := .f32) (patchDims O C B R R wf) none wt
        (Host.gather (colDims B C R H R wc) (Host.gather (rowDims B C H H R wr) x idx) idx) (ix4 o b i j)
      = ∑ c : Fin C, ∑ k : Fin 4, ∑ l : Fin 4, wt (ix4 o c k l) * x (ix4 b c ⟨f i k, hlt i k⟩ ⟨f j l, hlt j l⟩) := by
  rw [patch_apply]
  refine Finset.sum_congr rfl fun c _ => Finset.sum_congr rfl fun k _ => Finset.sum_congr rfl fun l _ => ?_
  rw [col_apply hH, row_apply hH]
  have e : ∀ (r : Fin R) (k : Fin 4), min (idx (ix3 r k 0)).toInt.toNat (H - 1) = f r k := fun r k => by
    rw [hf]; have := hlt r k; omega
  congr 2
  refine congrArg₂ (fun u v => ix4 b c u v) (Fin.ext (e i k)) (Fin.ext (e j l))

end Cert.Patches
end
-- ==== Proof.Val.RefStage.lean ====
/- The reference's stages as functions of arrays, and each of them at an index. -/
module

public import proofs.«01_k».proof.Proof.RefLine
public import proofs.«01_k».proof.Proof.Val.Patches
public import proofs.«01_k».proof.Proof.Val.Spec

@[expose] public section

set_option maxRecDepth 16384

noncomputable section

namespace Cert.ReferenceIdeal.Stage

open Idealize.ShloMosaic Idealize.ShloMosaic.TcCoe Idealize.ShloMosaic.Tactic Idealize.ShloMosaic.StableHlo
open Cert.ReferenceIdeal Cert.ReferenceIdeal.Facts₀ Cert.ReferenceIdeal.Facts

variable [Facts]

/-- The first convolution. -/
def enc1 (x : FVec Ideal S16x1x224x224 .f32) (w : FVec Ideal S64x1x4x4 .f32) (b : FVec Ideal S64 .f32) : FVec Ideal S16x64x112x112 .f32 :=
  let at2 : IVec S112x4x1 32 := addi (addi (iotaInDim S112x4x1 32 0) (iotaInDim S112x4x1 32 0)) (iotaInDim S112x4x1 32 1)
  addf (transpose S16x64x112x112 [1, 0, 2, 3] (Host.dotGeneral dot_S64x1x4x4_S16x1x112x4x112x4_S64x16x112x112_123_135_0_024_n_n none w
      (Host.gather gather_S16x1x112x4x226_S112x4x1_S16x1x112x4x112x4_0123_4_n_n_4_2_16111241
        (Host.gather gather_S16x1x226x226_S112x4x1_S16x1x112x4x226_014_2_n_n_2_2_1611226
          (pad S16x1x226x226 ![0, 0, 1, 1] ![0, 0, 1, 1] ![0, 0, 0, 0] x (constant (F := Ideal) S_ .f32 0x00000000#32) pads_S16x1x224x224_S16x1x226x226_000_000_110_110 h_S_) at2) at2))
      transposes_S64x16x112x112_S16x64x112x112_1_0_2_3)
    (broadcastInDim S16x64x112x112 ![0, 1, 2, 3] bcast_S1x64x1x1_S16x64x112x112_0_1_2_3 (broadcastInDim S1x64x1x1 ![1] bcast_S64_S1x64x1x1_1 b))

/-- The rectifier. -/
def relu (x : FVec Ideal S16x64x112x112 .f32) : FVec Ideal S16x64x112x112 .f32 :=
  maximumf x (broadcastInDim S16x64x112x112 ![] bcast_S_S16x64x112x112 (constant (F := Ideal) S_ .f32 0x00000000#32))

/-- The second convolution. -/
def enc2 (x : FVec Ideal S16x64x112x112 .f32) (w : FVec Ideal S32x64x4x4 .f32) (b : FVec Ideal S32 .f32) : FVec Ideal S16x32x56x56 .f32 :=
  let at2 : IVec S56x4x1 32 := addi (addi (iotaInDim S56x4x1 32 0) (iotaInDim S56x4x1 32 0)) (iotaInDim S56x4x1 32 1)
  addf (transpose S16x32x56x56 [1, 0, 2, 3] (Host.dotGeneral dot_S32x64x4x4_S16x64x56x4x56x4_S32x16x56x56_123_135_0_024_n_n none w
      (Host.gather gather_S16x64x56x4x114_S56x4x1_S16x64x56x4x56x4_0123_4_n_n_4_2_16645641
        (Host.gather gather_S16x64x114x114_S56x4x1_S16x64x56x4x114_014_2_n_n_2_2_16641114
          (pad S16x64x114x114 ![0, 0, 1, 1] ![0, 0, 1, 1] ![0, 0, 0, 0] x (constant (F := Ideal) S_ .f32 0x00000000#32) pads_S16x64x112x112_S16x64x114x114_000_000_110_110 h_S_) at2) at2))
      transposes_S32x16x56x56_S16x32x56x56_1_0_2_3)
    (broadcastInDim S16x32x56x56 ![0, 1, 2, 3] bcast_S1x32x1x1_S16x32x56x56_0_1_2_3 (broadcastInDim S1x32x1x1 ![1] bcast_S32_S1x32x1x1_1 b))

theorem word2 {n : ℕ} (hn : n ≤ 1000) (r : Fin n) (k : Fin 4) :
    (addi (addi (iotaInDim ⟨3, ![n, 4, 1]⟩ 32 0) (iotaInDim ⟨3, ![n, 4, 1]⟩ 32 0)) (iotaInDim ⟨3, ![n, 4, 1]⟩ 32 1) (ix3 r k 0)).toInt.toNat
      = 2 * (r : ℕ) + k := by
  have h : (addi (addi (iotaInDim ⟨3, ![n, 4, 1]⟩ 32 0) (iotaInDim ⟨3, ![n, 4, 1]⟩ 32 0)) (iotaInDim ⟨3, ![n, 4, 1]⟩ 32 1) (ix3 r k 0))
      = BitVec.ofNat 32 (2 * (r : ℕ) + k) := by
    show BitVec.ofNat 32 r + BitVec.ofNat 32 r + BitVec.ofNat 32 k = _
    rw [← BitVec.ofNat_add, ← BitVec.ofNat_add]; congr 1; omega
  rw [h, BitVec.toInt_eq_toNat_of_lt, BitVec.toNat_ofNat, Int.toNat_natCast, Nat.mod_eq_of_lt] <;>
    (try rw [BitVec.toNat_ofNat]) <;> have := r.isLt <;> have := k.isLt <;> omega

open Cert.Spec Cert.Patches

theorem addf_at {s : Shape} (p q : FVec Ideal s .f32) (y : s.Idx) : addf p q y = (p y + q y : EReal) := rfl

/-- The exchange of the two leading axes at an index. -/
theorem swap_at {O B R : ℕ} (p : FVec Ideal ⟨4, ![O, B, R, R]⟩ .f32) (h) (n : Fin B) (o : Fin O) (i j : Fin R) :
    transpose ⟨4, ![B, O, R, R]⟩ [1, 0, 2, 3] p h (ix4 n o i j) = p (ix4 o n i j) := by
  unfold transpose
  refine congrArg p ?_
  funext a
  match a with
  | ⟨0, _⟩ => rfl
  | ⟨1, _⟩ => rfl
  | ⟨2, _⟩ => rfl
  | ⟨3, _⟩ => rfl

/-- A stage at an index. -/
theorem enc1_apply (x : FVec Ideal S16x1x224x224 .f32) (w : FVec Ideal S64x1x4x4 .f32) (b : FVec Ideal S64 .f32) (n : Fin 16) (o : Fin 64) (i j : Fin 112) :
    enc1 x w b (ix4 n o i j) = conv w b (fun c u v => x (ix4 n c u v)) o i j := by
  unfold enc1 conv
  dsimp only
  refine (addf_at _ _ _).trans (congrArg₂ (fun p q : EReal => p + q) ((swap_at _ _ n o i j).trans ?_) (by pointwise []))
  refine (conv_apply (by norm_num) _ _ _ _ w _ (fun r k => 2 * r + k) (fun r k => word2 (by norm_num) r k)
    (fun r k => by have := r.isLt; have := k.isLt; show 2 * (r : ℕ) + k < 226; omega) o n i j).trans ?_
  refine Finset.sum_congr rfl fun c _ => Finset.sum_congr rfl fun k _ => Finset.sum_congr rfl fun l _ => congrArg _ ?_
  obtain rfl : c = 0 := Subsingleton.elim _ _
  unfold border
  pointwise []
  split_ifs <;> first | rfl | (exfalso; omega)

/-- A stage at an index. -/
theorem enc2_apply (x : FVec Ideal S16x64x112x112 .f32) (w : FVec Ideal S32x64x4x4 .f32) (b : FVec Ideal S32 .f32) (n : Fin 16) (o : Fin 32) (i j : Fin 56) :
    enc2 x w b (ix4 n o i j) = conv w b (fun c u v => x (ix4 n c u v)) o i j := by
  unfold enc2 conv
  dsimp only
  refine (addf_at _ _ _).trans (congrArg₂ (fun p q : EReal => p + q) ((swap_at _ _ n o i j).trans ?_) (by pointwise []))
  refine (conv_apply (by norm_num) _ _ _ _ w _ (fun r k => 2 * r + k) (fun r k => word2 (by norm_num) r k)
    (fun r k => by have := r.isLt; have := k.isLt; show 2 * (r : ℕ) + k < 114; omega) o n i j).trans ?_
  refine Finset.sum_congr rfl fun c _ => Finset.sum_congr rfl fun k _ => Finset.sum_congr rfl fun l _ => congrArg _ ?_
  unfold border
  pointwise []
  split_ifs <;> first | rfl | (exfalso; omega)

/-- A stage at an index. -/
theorem relu_apply (x : FVec Ideal S16x64x112x112 .f32) (y) : relu x y = max (x y) 0 := by
  unfold relu
  pointwise []

end Cert.ReferenceIdeal.Stage
end
-- ==== Proof.Val.RefRead.lean ====
/- X quantiser as functions of arrays, and each of them at an index. -/
module

public import proofs.«01_k».proof.Proof.RefLine
public import proofs.«01_k».proof.Proof.Val.RefVq
public import proofs.«01_k».proof.Proof.Val.RefStage
public import Idealize.ShloMosaic.Lib.StableHlo.RunRead
public import Idealize.ShloMosaic.Lib.Pipeline.ValueKit

@[expose] public section

set_option maxRecDepth 16384

noncomputable section

namespace Cert.ReferenceIdeal.Line

open Idealize.ShloMosaic Idealize.ShloMosaic.TcCoe Idealize.ShloMosaic.Tactic Idealize.ShloMosaic.StableHlo
open Cert.ReferenceIdeal Cert.ReferenceIdeal.Facts₀ Cert.ReferenceIdeal.Facts Cert.ReferenceIdeal.Stage

variable [Facts]

variable (V : Valuation τ sig (Elt Ideal))

/-- The encoder's output. -/
def zR : FVec Ideal S16x32x56x56 .f32 :=
  enc2 (relu (enc1 (V (Proc.devRef .tc main_arg0)) (V (Proc.devRef .tc main_arg1)) (V (Proc.devRef .tc main_arg2)))) (V (Proc.devRef .tc main_arg3)) (V (Proc.devRef .tc main_arg4))

/-- The nearest codewords. -/
def wR : IVec S50176 32 := words (dists (rows (zR V)) (V (Proc.devRef .tc main_arg5)))

/-- The quantised output. -/
def qR : FVec Ideal S16x32x56x56 .f32 := quant (wR V) (V (Proc.devRef .tc main_arg5))

theorem read_v24 : after (ops (F := Ideal)) V (Proc.devRef .tc main_v24) = zR V := by
  dsimp only [ops, parts]; after_reads_simp; rfl

omit V in
/-- The printed reduction's places. -/
theorem words_of {d d' : FVec Ideal S50176x1024 .f32} {y : IVec S50176x1024 32} {x₀ : FVec Ideal S_ .f32} {y₀ : IVec S_ 32} (hd : d = d')
    (hy : y = iotaInDim S50176x1024 32 1) (hx : x₀ = constant (F := Ideal) S_ .f32 0x7F800000#32) (hy₀ : y₀ = constantI S_ 32 0#32) :
    (fun j => (Host.argReduce reducer_argmin_f32_i32 d y x₀ y₀ reducesTo_S50176x1024_S50176_d1 h_S_ j).2) = words d' := by
  subst hd; subst hy; subst hx; subst hy₀
  rfl

theorem read_v56 : after (ops (F := Ideal)) V (Proc.devRef .tc main_v56) = shapeCast S16x56x56 (wR V) shapeCasts_S50176_S16x56x56 := by
  dsimp only [ops, parts]; after_reads_simp
  refine congrArg (fun t => shapeCast S16x56x56 t shapeCasts_S50176_S16x56x56) (?_ : _ = wR V)
  refine (cast_eq _ _).trans ?_
  refine words_of ?_ ?_ ?_ ?_
  · exact (cast_eq _ _).trans rfl
  · exact TRef.ofBuf_toBuf _ _
  · exact TRef.ofBuf_toBuf _ _
  · exact TRef.ofBuf_toBuf _ _

omit V in
/-- The printed one-hot rows. -/
theorem onehot_of {w a₁ : IVec S50176 32} {o : FVec Ideal S50176x1024 .f32} {c : IVec S50176x1024 1} {a b : IVec S50176x1024 32} {a₀ : IVec S50176x1 32} {b₀ : IVec S1x1024 32}
    (ho : o = uitofp (F := Ideal) .f32 c) (hc : c = cmpi .eq a b) (ha : a = broadcastInDim S50176x1024 ![0, 1] bcast_S50176x1_S50176x1024_0_1 a₀)
    (ha₀ : a₀ = broadcastInDim S50176x1 ![0] bcast_S50176_S50176x1_0 a₁) (ha₁ : a₁ = w)
    (hb : b = broadcastInDim S50176x1024 ![0, 1] bcast_S1x1024_S50176x1024_0_1 b₀) (hb₀ : b₀ = iotaInDim S1x1024 32 1) : o = onehot w := by
  subst ho hc ha ha₀ ha₁ hb hb₀
  rfl

theorem read_v42 : after (ops (F := Ideal)) V (Proc.devRef .tc main_v42) = onehot (wR V) := by
  dsimp only [ops, parts]; after_reads_simp
  refine onehot_of (cast_eq _ _) (TRef.ofBuf_toBuf _ _) (TRef.ofBuf_toBuf _ _) (TRef.ofBuf_toBuf _ _) ?_ (TRef.ofBuf_toBuf _ _) (TRef.ofBuf_toBuf _ _)
  refine (cast_eq _ _).trans ((cast_eq _ _).trans ?_)
  refine words_of ?_ ?_ ?_ ?_
  · exact (cast_eq _ _).trans rfl
  · exact TRef.ofBuf_toBuf _ _
  · exact TRef.ofBuf_toBuf _ _
  · exact TRef.ofBuf_toBuf _ _

/-- The loss from the one-hot rows and the encoder's output. -/
theorem read_v55_of : ∀ (o : FVec Ideal S50176x1024 .f32) (z : FVec Ideal S16x32x56x56 .f32),
    after (ops (F := Ideal)) V (Proc.devRef .tc main_v42) = o → after (ops (F := Ideal)) V (Proc.devRef .tc main_v24) = z →
    after (ops (F := Ideal)) V (Proc.devRef .tc main_v55) = loss (transpose S16x32x56x56 [0, 3, 1, 2]
      (shapeCast S16x56x56x32 (Host.dotGeneral (φ₂ := .f32) dot_S50176x1024_S1024x32_S50176x32_1_0_0_1_n_n none o (V (Proc.devRef .tc main_arg5))) shapeCasts_S50176x32_S16x56x56x32)
      transposes_S16x56x56x32_S16x32x56x56_0_3_1_2) z := by
  dsimp only [ops, parts]; after_reads_simp
  intro o z e e'
  rw [e, e']
  rfl

theorem read_v55 : after (ops (F := Ideal)) V (Proc.devRef .tc main_v55) = loss (qR V) (zR V) :=
  read_v55_of V _ _ (read_v42 V) (read_v24 V)

end Cert.ReferenceIdeal.Line
end
-- ==== Proof.Val.KHost.lean ====
/- The encoder's operands as the host prepares them. -/
module

public import proofs.«01_k».proof.Proof.Gen.KernelIdeal.Launch
public import proofs.«01_k».proof.Proof.Val.Spec
public import Idealize.ShloMosaic.Lib.StableHlo.RunRead
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.ShloMosaic.StableHlo
open Cert.KernelIdeal Cert.KernelIdeal.Gen Cert.Spec Cert.KernelIdeal.Facts₀ Cert.KernelIdeal.Facts

variable (V : Valuation τ sig (Elt Ideal))

/-- The weights of the first layer. -/
theorem host_v38 (k : Fin 16) (o : Fin 64) : (after (hostOps0_2 (F := Ideal)) V (Proc.devRef .tc main_v38) : Vec Ideal S16x64 .f32) (ix2 k o)
    = (V (Proc.devRef .tc main_arg1) : Vec Ideal S64x1x4x4 .f32) (ix4 o 0 ⟨k / 4, by omega⟩ ⟨k % 4, by omega⟩) := by
  dsimp only [hostOps0_2]; after_reads_simp
  pointwise []

/-- The weights of the second layer. -/
theorem host_v40 (l : Fin 16) (k : Fin 64) (o : Fin 32) : (after (hostOps0_2 (F := Ideal)) V (Proc.devRef .tc main_v40) : Vec Ideal S16x64x32 .f32) (ix3 l k o)
    = (V (Proc.devRef .tc main_arg3) : Vec Ideal S32x64x4x4 .f32) (ix4 o k ⟨l / 4, by omega⟩ ⟨l % 4, by omega⟩) := by
  dsimp only [hostOps0_2]; after_reads_simp
  pointwise []

theorem host_v41 (o : Fin 64) : (after (hostOps0_2 (F := Ideal)) V (Proc.devRef .tc main_v41) : Vec Ideal S1x64 .f32) (ix2 0 o)
    = (V (Proc.devRef .tc main_arg2) : Vec Ideal S64 .f32) (ix1 o) := by
  dsimp only [hostOps0_2]; after_reads_simp
  pointwise []

theorem host_v42 (o : Fin 32) : (after (hostOps0_2 (F := Ideal)) V (Proc.devRef .tc main_v42) : Vec Ideal S1x32 .f32) (ix2 0 o)
    = (V (Proc.devRef .tc main_arg4) : Vec Ideal S32 .f32) (ix1 o) := by
  dsimp only [hostOps0_2]; after_reads_simp
  pointwise []

/-- The image with its border. -/
theorem host_v1 (b : Fin 16) (u v : Fin 226) :
    (after (hostOps0_1 (F := Ideal)) (after (hostOps0 (F := Ideal)) V) (Proc.devRef .tc main_v1) : Vec Ideal S16x226x226 .f32) (ix3 b u v)
      = border (fun p q => (V (Proc.devRef .tc main_arg0) : Vec Ideal S16x1x224x224 .f32) (ix4 b 0 p q)) u v := by
  dsimp only [hostOps0, hostOps0_1]; after_reads_simp
  have e : (pad S16x226x226 ![0, 1, 1] ![0, 1, 1] ![0, 0, 0] (shapeCast S16x224x224 (V (Proc.devRef .tc main_arg0) : Vec Ideal S16x1x224x224 .f32) Gen.shapeCasts_S16x1x224x224_S16x224x224)
      (sitofp (F := Ideal) .f32 (constantI S_ 32 0#32)) Gen.pads_S16x224x224_S16x226x226_000_110_110 Gen.h_S_ : Vec Ideal S16x226x226 .f32) (ix3 b u v)
      = border (fun p q => (V (Proc.devRef .tc main_arg0) : Vec Ideal S16x1x224x224 .f32) (ix4 b 0 p q)) u v := by
    have z : (FloatOps.sitofp (F := Ideal) .f32 (0#32) : EReal) = 0 := by
      show (((0#32 : BitVec 32).toInt : ℝ) : EReal) = 0
      simp
    unfold border
    pointwise []
    rw [z]
    refine dite_congr (by have := u.isLt; have := v.isLt; exact propext ⟨fun h => by omega, fun h => by omega⟩) (fun _ => rfl) fun _ => rfl
  refine Eq.trans ?_ e
  rfl

/-- Sixteen slabs side by side, the image's points on one axis. -/
def slabs (u0 u1 u2 u3 u4 u5 u6 u7 u8 u9 u10 u11 u12 u13 u14 u15 : Vec Ideal S16x112x112x1 .f32) : Vec Ideal S16x12544x16 .f32 :=
  shapeCast S16x12544x16 (concatenate S16x112x112x16 3 [⟨S16x112x112x1, u0⟩, ⟨S16x112x112x1, u1⟩, ⟨S16x112x112x1, u2⟩, ⟨S16x112x112x1, u3⟩, ⟨S16x112x112x1, u4⟩, ⟨S16x112x112x1, u5⟩, ⟨S16x112x112x1, u6⟩, ⟨S16x112x112x1, u7⟩, ⟨S16x112x112x1, u8⟩, ⟨S16x112x112x1, u9⟩, ⟨S16x112x112x1, u10⟩, ⟨S16x112x112x1, u11⟩, ⟨S16x112x112x1, u12⟩, ⟨S16x112x112x1, u13⟩, ⟨S16x112x112x1, u14⟩, ⟨S16x112x112x1, u15⟩] Gen.concatenates_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x16_d3 : Vec Ideal S16x112x112x16 .f32) Gen.shapeCasts_S16x112x112x16_S16x12544x16

/-- A family of slabs side by side. -/
theorem side_at (u : Fin 16 → Vec Ideal S16x112x112x1 .f32) (h) (b : Fin 16) (i j : Fin 112) (q : Fin 16) :
    (concatenate S16x112x112x16 3 (List.ofFn fun n : Fin 16 => (⟨S16x112x112x1, u n⟩ : (s : Shape) × (s.Idx → Elt Ideal .f32))) h : Vec Ideal S16x112x112x16 .f32) (ix4 b i j q)
      = u q (ix4 b i j 0) := by
  refine concatenate_ofFn_unit_eq (t := S16x112x112x16) (s₁ := S16x112x112x1) 3 u h (ix4 b i j q) _ rfl rfl fun n x hn h0 hb => ?_
  obtain rfl : q = n := Fin.ext hn
  refine congrArg (u q) (funext fun a => Fin.ext ?_)
  match a with
  | ⟨0, _⟩ => exact hb 0 (by decide)
  | ⟨1, _⟩ => exact hb 1 (by decide)
  | ⟨2, _⟩ => exact hb 2 (by decide)
  | ⟨3, _⟩ => exact h0

/-- The image's points on one axis. -/
theorem points_at (f : Vec Ideal S16x112x112x16 .f32) (b : Fin 16) (i j : Fin 112) (q : Fin 16) :
    shapeCast S16x12544x16 f Gen.shapeCasts_S16x112x112x16_S16x12544x16 (ix3 b ⟨i * 112 + j, by omega⟩ q) = f (ix4 b i j q) := by
  have hi : ((i : ℕ) * 112 + j) / 112 = i := by omega
  have hj : ((i : ℕ) * 112 + j) % 112 = j := by omega
  have e : ∀ p : Fin 12544, shapeCast S16x12544x16 f Gen.shapeCasts_S16x112x112x16_S16x12544x16 (ix3 b p q) = f (ix4 b ⟨p / 112, by omega⟩ ⟨p % 112, by omega⟩ q) := by
    intro p
    pointwise []
  rw [e]
  exact congrArg₂ (fun r s => f (ix4 b r s q)) (Fin.ext hi) (Fin.ext hj)

/-- A slab: the image's points two apart in both directions from one on. -/
def slab (P : Vec Ideal S16x226x226 .f32) (k l : ℕ) (h : S16x226x226.SlicesBy ![0, k, l] ![1, 2, 2] S16x112x112) : Vec Ideal S16x112x112x1 .f32 :=
  broadcastInDim S16x112x112x1 ![0, 1, 2] Gen.bcast_S16x112x112_S16x112x112x1_0_1_2 (Host.slice S16x112x112 ![0, k, l] ![1, 2, 2] P h)

/-- A slab at an index. -/
theorem slab_at (P : Vec Ideal S16x226x226 .f32) (k l : ℕ) (hk : k < 4) (hl : l < 4) (h) (b : Fin 16) (i j : Fin 112) :
    slab P k l h (ix4 b i j 0) = P (ix3 b ⟨k + 2 * i, by omega⟩ ⟨l + 2 * j, by omega⟩) := by
  unfold slab
  pointwise []

/-- Each slab lies inside the bordered image. -/
theorem slices (q : Fin 16) : S16x226x226.SlicesBy ![0, q / 4, q % 4] ![1, 2, 2] S16x112x112 := by
  revert q; decide

/-- The slab of a place among the sixteen. -/
def slabOf (P : Vec Ideal S16x226x226 .f32) (q : Fin 16) : Vec Ideal S16x112x112x1 .f32 := slab P (q / 4) (q % 4) (slices q)

/-- The patches are the slabs side by side. -/
theorem read_v35 : (after (hostOps0_2 (F := Ideal)) V (Proc.devRef .tc main_v35) : Vec Ideal S16x12544x16 .f32)
    = slabs (slabOf (V (Proc.devRef .tc main_v1)) 0) (slabOf (V (Proc.devRef .tc main_v1)) 1) (slabOf (V (Proc.devRef .tc main_v1)) 2) (slabOf (V (Proc.devRef .tc main_v1)) 3) (slabOf (V (Proc.devRef .tc main_v1)) 4) (slabOf (V (Proc.devRef .tc main_v1)) 5) (slabOf (V (Proc.devRef .tc main_v1)) 6) (slabOf (V (Proc.devRef .tc main_v1)) 7) (slabOf (V (Proc.devRef .tc main_v1)) 8) (slabOf (V (Proc.devRef .tc main_v1)) 9) (slabOf (V (Proc.devRef .tc main_v1)) 10) (slabOf (V (Proc.devRef .tc main_v1)) 11) (slabOf (V (Proc.devRef .tc main_v1)) 12) (slabOf (V (Proc.devRef .tc main_v1)) 13) (slabOf (V (Proc.devRef .tc main_v1)) 14) (slabOf (V (Proc.devRef .tc main_v1)) 15) := by
  dsimp only [hostOps0_2]; after_reads_simp
  show slabs (upto _ V 32 (Proc.devRef .tc main_v18)) (upto _ V 32 (Proc.devRef .tc main_v19)) (upto _ V 32 (Proc.devRef .tc main_v20)) (upto _ V 32 (Proc.devRef .tc main_v21)) (upto _ V 32 (Proc.devRef .tc main_v22)) (upto _ V 32 (Proc.devRef .tc main_v23)) (upto _ V 32 (Proc.devRef .tc main_v24)) (upto _ V 32 (Proc.devRef .tc main_v25)) (upto _ V 32 (Proc.devRef .tc main_v26)) (upto _ V 32 (Proc.devRef .tc main_v27)) (upto _ V 32 (Proc.devRef .tc main_v28)) (upto _ V 32 (Proc.devRef .tc main_v29)) (upto _ V 32 (Proc.devRef .tc main_v30)) (upto _ V 32 (Proc.devRef .tc main_v31)) (upto _ V 32 (Proc.devRef .tc main_v32)) (upto _ V 32 (Proc.devRef .tc main_v33)) = _
  after_reads_simp
  rfl

/-- The image's patches. -/
theorem host_v35 (b : Fin 16) (i j : Fin 112) (k l : Fin 4) :
    (after (hostOps0_2 (F := Ideal)) V (Proc.devRef .tc main_v35) : Vec Ideal S16x12544x16 .f32) (ix3 b ⟨i * 112 + j, by omega⟩ ⟨k * 4 + l, by omega⟩)
      = (V (Proc.devRef .tc main_v1) : Vec Ideal S16x226x226 .f32) (ix3 b ⟨2 * i + k, by omega⟩ ⟨2 * j + l, by omega⟩) := by
  rw [read_v35]
  refine (points_at _ b i j _).trans ((side_at (slabOf (V (Proc.devRef .tc main_v1))) Gen.concatenates_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x1_S16x112x112x16_d3 b i j _).trans ?_)
  refine (slab_at _ _ _ (by dsimp only; omega) (by dsimp only; omega) _ b i j).trans ?_
  refine congrArg₂ (fun r s => (V (Proc.devRef .tc main_v1) : Vec Ideal S16x226x226 .f32) (ix3 b r s)) (Fin.ext ?_) (Fin.ext ?_)
  · dsimp only; omega
  · dsimp only; omega

end Cert.KernelIdeal.Val
end
-- ==== Proof.Val.VqBody.lean ====
module

public import proofs.«01_k».proof.Proof.Fr.IdealVq
public import Idealize.ShloMosaic.Lib.Pipeline.ValueKit
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr

variable (V : (c : Dev nD) → (b : Ref sig .tc) → Buf (Elt Ideal) ((c : Thread nD τ).loc b))

/-- The one index of a `1 × 1` array. -/
theorem idx11 (i j : S1x1.Idx) : i = j := by
  funext a
  refine Fin.ext ?_
  have h1 : (i a : ℕ) < S1x1.size a := (i a).2
  have h2 : (j a : ℕ) < S1x1.size a := (j a).2
  have : S1x1.size a = 1 := by fin_cases a <;> rfl
  omega

/-- What a point leaves: the quantised rows, the indices, and the running sum. -/
theorem vqFirst (c : Dev nD) (t : Fin cfg1.N) (h0 : t.val % 98 = 0) (h1 : ¬1 ≤ t.val) (h2 : ¬t.val % 98 = 97) :
    outsAt1 (F := Ideal) V c t.val t.isLt = (k1_pay6 (iblk1 V c 0 t) (iblk1 V c 1 t), k1_pay7 (iblk1 V c 0 t) (iblk1 V c 1 t),
      fun _ => k1_pay1 (k1_pay8 (iblk1 V c 0 t) (iblk1 V c 1 t))) := by
  rw [outsAt1_A V c t h0 h1 h2]
  refine Prod.ext ?_ (Prod.ext ?_ ?_)
  · dsimp only
    frame_out
  · dsimp only
    frame_out
  · dsimp only
    frame_out
    rfl

theorem vqMid (c : Dev nD) (t : Fin cfg1.N) (h0 : ¬t.val % 98 = 0) (h1 : 1 ≤ t.val) (h2 : ¬t.val % 98 = 97) :
    outsAt1 (F := Ideal) V c t.val t.isLt = (k1_pay6 (iblk1 V c 0 t) (iblk1 V c 1 t), k1_pay7 (iblk1 V c 0 t) (iblk1 V c 1 t),
      fun _ => k1_pay2 (k1_pay8 (iblk1 V c 0 t) (iblk1 V c 1 t)) ((outsAt1 (F := Ideal) V c (t.val - 1) (Nat.lt_of_le_of_lt (Nat.sub_le _ _) t.isLt)).2.2 (ix2 0 0))) := by
  rw [outsAt1_B V c t h0 h1 h2]
  refine Prod.ext ?_ (Prod.ext ?_ ?_)
  · dsimp only
    frame_out
  · dsimp only
    frame_out
  · dsimp only
    frame_out
    funext x
    exact congrArg (k1_pay2 _) (congrArg ((outsAt1 (F := Ideal) V c (t.val - 1) (Nat.lt_of_le_of_lt (Nat.sub_le _ _) t.isLt)).2.2) (idx11 _ _))

theorem vqLast (c : Dev nD) (t : Fin cfg1.N) (h0 : ¬t.val % 98 = 0) (h1 : 1 ≤ t.val) (h2 : t.val % 98 = 97) :
    outsAt1 (F := Ideal) V c t.val t.isLt = (k1_pay6 (iblk1 V c 0 t) (iblk1 V c 1 t), k1_pay7 (iblk1 V c 0 t) (iblk1 V c 1 t),
      fun _ => k1_pay3 (k1_pay2 (k1_pay8 (iblk1 V c 0 t) (iblk1 V c 1 t)) ((outsAt1 (F := Ideal) V c (t.val - 1) (Nat.lt_of_le_of_lt (Nat.sub_le _ _) t.isLt)).2.2 (ix2 0 0)))) := by
  rw [outsAt1_C V c t h0 h1 h2]
  refine Prod.ext ?_ (Prod.ext ?_ ?_)
  · dsimp only
    frame_out
  · dsimp only
    frame_out
  · dsimp only
    frame_out
    funext x
    exact congrArg k1_pay3 (congrArg (k1_pay2 _) (congrArg ((outsAt1 (F := Ideal) V c (t.val - 1) (Nat.lt_of_le_of_lt (Nat.sub_le _ _) t.isLt)).2.2) (idx11 _ _)))

end Cert.KernelIdeal.Val
end
-- ==== Proof.Val.VqPay.lean ====
/- The quantiser's block functions at an index. -/
module

public import proofs.«01_k».proof.Proof.Val.VqBody
public import proofs.«01_k».proof.Proof.Val.Argmin
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr Cert.Spec

/-- The body's index of a row is the first place of its least distance. -/
theorem pay5_first (z : Vec Ideal S512x32 .f32) (C : Vec Ideal S1024x32 .f32) (r : Fin 512) :
    IsFirst (fun j => sqdist (fun k => z (ix2 r k)) C j) (k1_pay5 (F := Ideal) z C (ix1 r)) := by
  have h := fold_first (fun j => sqdist (fun k => z (ix2 r k)) C j)
  rw [← top_const] at h
  refine cast (congrArg (IsFirst _) ?_) h
  unfold sqdist
  pointwise [k1_pay5, k1_pay4]

/-- A comparison's bit as a float. -/
theorem hotK (a b : BitVec 32) : (FloatOps.sitofp (F := Ideal) .f32 (BitVec.setWidth 32 (IntOp.cmpi .eq a b)) : EReal) = if a = b then 1 else 0 := by
  show (((BitVec.setWidth 32 (IntOp.cmpi .eq a b)).toInt : ℝ) : EReal) = _
  unfold IntOp.cmpi
  by_cases h : a = b
  · subst h; simp
  · rw [if_neg h, show (a == b) = false from beq_false_of_ne h]
    simp

/-- The body's rows are the codebook's at their indices. -/
theorem pay6_pick (z : Vec Ideal S512x32 .f32) (C : Vec Ideal S1024x32 .f32) (r : Fin 512) (k : Fin 32) :
    k1_pay6 (F := Ideal) z C (ix2 r k) = pick C (k1_pay5 (F := Ideal) z C (ix1 r)) k := by
  unfold pick
  simp only [← hotK]
  pointwise [k1_pay6, k1_pay4]

/-- The stored indices are the rows'. -/
theorem pay7_at (z : Vec Ideal S512x32 .f32) (C : Vec Ideal S1024x32 .f32) (r : Fin 512) :
    k1_pay7 (F := Ideal) z C (ix3 0 0 r) = k1_pay5 (F := Ideal) z C (ix1 r) := by
  pointwise [k1_pay7]

/-- A block's sum of squared errors. -/
def part (z : Vec Ideal S512x32 .f32) (C : Vec Ideal S1024x32 .f32) : EReal :=
  ∑ r : Fin 512, ∑ k : Fin 32, (k1_pay6 (F := Ideal) z C (ix2 r k) - z (ix2 r k)) * (k1_pay6 (F := Ideal) z C (ix2 r k) - z (ix2 r k))

theorem first_part (z : Vec Ideal S512x32 .f32) (C : Vec Ideal S1024x32 .f32) : k1_pay1 (F := Ideal) (k1_pay8 z C) = part z C := by
  unfold part
  pointwise [k1_pay8, k1_pay1, k1_pay4]

theorem mid_part (z : Vec Ideal S512x32 .f32) (C : Vec Ideal S1024x32 .f32) (s : EReal) : k1_pay2 (F := Ideal) (k1_pay8 z C) s = s + part z C := by
  unfold part
  pointwise [k1_pay8, k1_pay1, k1_pay2, k1_pay4]

theorem last_part (s : EReal) : k1_pay3 (F := Ideal) s = s * ((5 / 6422528 : ℝ) : EReal) := by
  have e : (Named.named (F := Ideal) (φ := .f32) κ "loss_scale" 0x3550FAC7#32 : EReal) = ((5 / 6422528 : ℝ) : EReal) := rfl
  rw [← e]
  pointwise [k1_pay3]

end Cert.KernelIdeal.Val
end
-- ==== Proof.Val.KVq.lean ====
/- The quantiser's results after its run. -/
module

public import proofs.«01_k».proof.Proof.Val.VqPay
public import Idealize.ShloMosaic.Lib.Pipeline.ValueKit
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr Cert.Spec

variable (V : (c : Dev nD) → (b : Ref sig .tc) → Buf (Elt Ideal) ((c : Thread nD τ).loc b))

/-- The windows' index maps. -/
theorem idx1 : ∀ t : Fin cfg1.N, win1_0.index t = ![t.val, 0] ∧ win1_1.index t = ![0, 0] ∧ win1_2.index t = ![t.val, 0]
    ∧ win1_3.index t = ![t.val, 0, 0] ∧ win1_4.index t = ![0, 0] :=
  (by decide +kernel : ∀ t : Fin grid1.N, _)

theorem whole1_1 (c : Dev nD) (t : Fin cfg1.N) : iblk1 V c 1 t = V c main_arg5 := by blk_ext! [iblk1, idx1 t]

theorem lt1 (t : Fin cfg1.N) : t.val < 98 := t.isLt

/-- The point's block of rows. -/
theorem block1Z (c : Dev nD) (t : Fin cfg1.N) (r : Fin 512) (k : Fin 32) :
    (iblk1 V c 0 t : Vec Ideal S512x32 .f32) (ix2 r k) = (V c main_v44 : Vec Ideal S50176x32 .f32) (ix2 ⟨t.val * 512 + r.val, by have := lt1 t; omega⟩ k) := by
  blk_point [iblk1, idx1 t]

/-- Every point leaves its rows' indices. -/
theorem outs1_idx (c : Dev nD) (t : Fin cfg1.N) : (outsAt1 (F := Ideal) V c t.val t.isLt).2.1 = k1_pay7 (iblk1 V c 0 t) (iblk1 V c 1 t) := by
  have := lt1 t
  by_cases h : 1 ≤ t.val
  · by_cases h2 : t.val % 98 = 97
    · rw [vqLast V c t (by omega) h h2]
    · rw [vqMid V c t (by omega) h h2]
  · rw [vqFirst V c t (by omega) h (by omega)]

variable (c : Dev nD) (w : Fin 50176 → BitVec 32)

/-- The words are the first places of their rows' least distances. -/
def Places : Prop := ∀ i : Fin 50176, IsFirst (fun j => sqdist (fun k => (V c main_v44 : Vec Ideal S50176x32 .f32) (ix2 i k)) (V c main_arg5) j) (w i)

variable {V c w}

theorem word_at (hw : Places V c w) (t : Fin cfg1.N) (r : Fin 512) :
    k1_pay5 (F := Ideal) (iblk1 V c 0 t) (iblk1 V c 1 t) (ix1 r) = w ⟨t.val * 512 + r.val, by have := lt1 t; omega⟩ := by
  refine (pay5_first _ _ r).unique ?_
  simp only [block1Z, whole1_1]
  exact hw _

/-- The indices after the run. -/
def idxArr (w : Fin 50176 → BitVec 32) : Vec Ideal S98x1x512 .i32 := fun y =>
  w ⟨(y 0 : ℕ) * 512 + (y 2 : ℕ), by have h : (y 0 : ℕ) < 98 := (y 0).2; have h' : (y 2 : ℕ) < 512 := (y 2).2; omega⟩

/-- The point's block of the indices. -/
theorem block1I (t : Fin cfg1.N) (y : S1x1x512.Idx) :
    y = ix3 0 0 ⟨((((cfg1.win 3).blk t).view.emb y) 2 : ℕ), ((((cfg1.win 3).blk t).view.emb y) 2).2⟩ := by
  blk_ext [idx1 t]

theorem block1T (t : Fin cfg1.N) (y : S1x1x512.Idx) : (((((cfg1.win 3).blk t).view.emb y) 0 : Fin _) : ℕ) = t.val := by
  blk_point [idx1 t]

theorem final1_3 (hw : Places V c w) : (dat1 V c).arrAt 3 cfg1.N = idxArr w := by
  refine (dat1 V c).arrAt_eq_of_covers 3 _ (by decide +kernel) fun t _ y => ?_
  blk_simp
  rw [after1_3, outs1_idx]
  refine (congrArg (k1_pay7 (F := Ideal) (iblk1 V c 0 t) (iblk1 V c 1 t)) (block1I t y)).trans ?_
  refine (pay7_at _ _ ⟨((((cfg1.win 3).blk t).view.emb y) 2 : ℕ), ((((cfg1.win 3).blk t).view.emb y) 2).2⟩).trans ?_
  refine (word_at hw t _).trans ?_
  unfold idxArr
  refine congrArg w (Fin.ext ?_)
  exact congrArg (fun n => n * 512 + ((((cfg1.win 3).blk t).view.emb y) 2 : ℕ)) (block1T t y).symm

/-- A row's squared error. -/
def err (w : Fin 50176 → BitVec 32) (Z : Vec Ideal S50176x32 .f32) (C : Vec Ideal S1024x32 .f32) (i : Fin 50176) : EReal :=
  ∑ k : Fin 32, (pick C (w i) k - Z (ix2 i k)) * (pick C (w i) k - Z (ix2 i k))

/-- The squared errors of a point's rows. -/
def errAt (w : Fin 50176 → BitVec 32) (Z : Vec Ideal S50176x32 .f32) (C : Vec Ideal S1024x32 .f32) (n : ℕ) : EReal :=
  if h : n < 98 then ∑ r : Fin 512, err w Z C ⟨n * 512 + r.val, by omega⟩ else 0

theorem part_at (hw : Places V c w) (t : Fin cfg1.N) : part (iblk1 V c 0 t) (iblk1 V c 1 t) = errAt w (V c main_v44) (V c main_arg5) t.val := by
  unfold part errAt
  rw [dif_pos (lt1 t)]
  refine Finset.sum_congr rfl fun r _ => ?_
  unfold err
  refine Finset.sum_congr rfl fun k _ => ?_
  rw [pay6_pick, word_at hw t, block1Z, whole1_1]

/-- The running sum before the last point. -/
theorem run1 (hw : Places V c w) : ∀ (n : ℕ) (hn : n < 97) (x : S1x1.Idx),
    (outsAt1 (F := Ideal) V c n (by show n < 98; omega)).2.2 x = ∑ s ∈ Finset.range (n + 1), errAt w (V c main_v44) (V c main_arg5) s := by
  intro n
  induction n with
  | zero =>
    intro hn x
    have e := vqFirst V c ⟨0, by show 0 < 98; omega⟩ (by norm_num) (by norm_num) (by norm_num)
    refine (congrArg (fun p => p.2.2 x) e).trans ?_
    dsimp only
    rw [first_part, part_at hw, Finset.sum_range_one]
  | succ n ih =>
    intro hn x
    have e := vqMid V c ⟨n + 1, by show n + 1 < 98; omega⟩ (by show ¬(n + 1) % 98 = 0; omega) (by show 1 ≤ n + 1; omega) (by show ¬(n + 1) % 98 = 97; omega)
    refine (congrArg (fun p => p.2.2 x) e).trans ?_
    dsimp only
    rw [mid_part, part_at hw, Finset.sum_range_succ _ (n + 1)]
    exact congrArg (· + _) (ih (by omega) _)

/-- What the last point leaves of the sum. -/
theorem run1_last (hw : Places V c w) (t : Fin cfg1.N) (ht : t.val = 97) (x : S1x1.Idx) :
    (outsAt1 (F := Ideal) V c t.val t.isLt).2.2 x
      = (∑ s ∈ Finset.range 98, errAt w (V c main_v44) (V c main_arg5) s) * ((5 / 6422528 : ℝ) : EReal) := by
  rw [vqLast V c t (by omega) (by omega) (by omega)]
  dsimp only
  have hn : t.val - 1 < 97 := by omega
  rw [last_part, mid_part, part_at hw, run1 hw (t.val - 1) hn (ix2 0 0), show t.val - 1 + 1 = t.val by omega, ← Finset.sum_range_succ,
    show t.val + 1 = 98 by omega]

theorem final1_4 (hw : Places V c w) : (dat1 V c).arrAt 4 cfg1.N
    = fun _ => (∑ s ∈ Finset.range 98, errAt w (V c main_v44) (V c main_arg5) s) * ((5 / 6422528 : ℝ) : EReal) := by
  refine (dat1 V c).arrAt_eq_of_covers 4 _ (by decide +kernel) fun t hf y => ?_
  have h97 : t.val = 97 := by have := (flush1_4 t).mp hf; have := lt1 t; omega
  blk_simp
  rw [after1_4]
  exact run1_last hw t h97 y

end Cert.KernelIdeal.Val
end
-- ==== Proof.Val.EncOut.lean ====
module

public import proofs.«01_k».proof.Proof.Fr.IdealEnc
public import Idealize.ShloMosaic.Lib.Pipeline.ValueKit
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr

/-- The second convolution at output row `y 1` and channel `y 2`, over the padded hidden rows `Y`. -/
def conv2 (Y : Vec Ideal S114x114x64 .f32) (w : Vec Ideal S16x64x32 .f32) (b : Vec Ideal S1x32 .f32) (y : S1x3136x32.Idx) : EReal :=
  (∑ kh : Fin 4, ∑ kw : Fin 4, ∑ k : Fin 64,
    Y (ix3 ⟨2 * ((y 1 : ℕ) / 56) + kh, by have := (y 1).2; simp at this; omega⟩ ⟨2 * ((y 1 : ℕ) % 56) + kw, by omega⟩ k)
      * w (ix3 ⟨4 * (kh : ℕ) + kw, by omega⟩ k ⟨(y 2 : ℕ), (y 2).2⟩)) + b (ix2 0 ⟨(y 2 : ℕ), (y 2).2⟩)

/-- The second half's four stores hold the second convolution of the scratch. -/
theorem encOut (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec Ideal S1x12544x16 .f32) (x1 : Vec Ideal S16x64 .f32) (x2 : Vec Ideal S1x64 .f32) (x3 : Vec Ideal S16x64x32 .f32) (x4 : Vec Ideal S1x32 .f32)
    (Y : Vec Ideal S114x114x64 .f32) (y : S1x3136x32.Idx) :
    View.canon (((kernelRun0_A (F := Ideal) c i arg1 harg1 arg2 harg2 arg3 harg3 arg4 harg4 arg5 harg5 arg6 harg6 arg7 harg7 x0 x1 x2 x3 x4).2 Y).1) y = conv2 Y x3 x4 y := by
  unfold kernelRun0_A
  dsimp only
  canon_tiles x h
  all_goals
    try dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_114]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, Memref.IsWhole.readAt_unread]
    try unfold conv2
    try simp only [Fin.sum_univ_four, zero_add, add_assoc]
    blk_point []

end Cert.KernelIdeal.Val
end
-- ==== Proof.Val.EncScr.lean ====
module

public import proofs.«01_k».proof.Proof.Fr.IdealEnc
public import Idealize.ShloMosaic.Lib.Pipeline.ValueKit
public import Idealize.ShloMosaic.Lib.WholeRead

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr

/-- The hidden layer's padded rows: zero on the halo, inside it the first convolution clamped at zero. -/
def hid (X : Vec Ideal S1x12544x16 .f32) (w : Vec Ideal S16x64 .f32) (b : Vec Ideal S1x64 .f32) (y : S114x114x64.Idx) : EReal :=
  if h : (1 ≤ (y 0 : ℕ) ∧ (y 0 : ℕ) ≤ 112) ∧ 1 ≤ (y 1 : ℕ) ∧ (y 1 : ℕ) ≤ 112 then
    max ((∑ k : Fin 16, X (ix3 0 ⟨112 * ((y 0 : ℕ) - 1) + ((y 1 : ℕ) - 1), by omega⟩ k) * w (ix2 k ⟨(y 2 : ℕ), (y 2).2⟩))
      + b (ix2 0 ⟨(y 2 : ℕ), (y 2).2⟩)) 0
  else 0

/-- The first half leaves the hidden layer in the scratch. -/
theorem encScr (c : Dev nD) (i : grid0.Coords) (arg1 : Memref sig .tc .vmem S1x12544x16 .f32) (harg1 : arg1.IsWhole) (arg2 : Memref sig .tc .vmem S16x64 .f32) (harg2 : arg2.IsWhole) (arg3 : Memref sig .tc .vmem S1x64 .f32) (harg3 : arg3.IsWhole) (arg4 : Memref sig .tc .vmem S16x64x32 .f32) (harg4 : arg4.IsWhole) (arg5 : Memref sig .tc .vmem S1x32 .f32) (harg5 : arg5.IsWhole) (arg6 : Memref sig .tc .vmem S1x3136x32 .f32) (harg6 : arg6.IsWhole) (arg7 : Memref sig .tc .vmem S114x114x64 .f32) (harg7 : arg7.IsWhole)
    (x0 : Vec Ideal S1x12544x16 .f32) (x1 : Vec Ideal S16x64 .f32) (x2 : Vec Ideal S1x64 .f32) (x3 : Vec Ideal S16x64x32 .f32) (x4 : Vec Ideal S1x32 .f32)
    (y : S114x114x64.Idx) :
    scr0 (F := Ideal) c i arg1 harg1 arg2 harg2 arg3 harg3 arg4 harg4 arg5 harg5 arg6 harg6 arg7 harg7 x0 x1 x2 x3 x4 y = hid x0 x1 x2 y := by
  unfold scr0
  have hc := scrCover0 (F := Ideal) c i arg1 harg1 arg2 harg2 arg3 harg3 arg4 harg4 arg5 harg5 arg6 harg6 arg7 harg7 x0 x1 x2 x3 x4 y
  unfold kernelRun0_A at hc ⊢
  dsimp only at hc ⊢
  canon_tiles x h using hc
  all_goals
    try dsimp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.cst_114]
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, Memref.IsWhole.readAt_unread]
    try unfold hid
    try simp only [zero_add]
    try first
      | rw [dif_pos (by omega)]
      | rw [dif_neg (by omega)]
    try blk_point []

end Cert.KernelIdeal.Val
end
-- ==== Proof.Val.KEnc.lean ====
/- The encoder kernel's result array: both convolutions over the arrays its windows read. -/
module

public import proofs.«01_k».proof.Proof.Val.EncOut
public import proofs.«01_k».proof.Proof.Val.EncScr

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open Idealize.SL.Sem
open Idealize.ShloMosaic.Pipeline (Dat Cfg Window BodyObligation cellOf)
open Cert.KernelIdeal Cert.KernelIdeal.Gen Cert.KernelIdeal.Fr

variable (V : (c : Dev nD) → (b : Ref sig .tc) → Buf (Elt Ideal) ((c : Thread nD τ).loc b))

/-- The windows' index maps. -/
theorem idx0 : ∀ t : Fin cfg0.N, win0_0.index t = ![t.val, 0, 0] ∧ win0_1.index t = ![0, 0] ∧ win0_2.index t = ![0, 0]
    ∧ win0_3.index t = ![0, 0, 0] ∧ win0_4.index t = ![0, 0] ∧ win0_5.index t = ![t.val, 0, 0] :=
  (by decide +kernel : ∀ t : Fin grid0.N, _)

/-- What a point leaves of the result. -/
theorem outs0_at (c : Dev nD) (t : Fin cfg0.N) (y : S1x3136x32.Idx) :
    outsAt0 (F := Ideal) V c t y = conv2 (hid (iblk0 V c 0 t) (iblk0 V c 1 t) (iblk0 V c 2 t)) (iblk0 V c 3 t) (iblk0 V c 4 t) y := by
  unfold outsAt0 out0_A_5
  rw [View.read_writes_eq_canon _ _ _ (cover0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t))]
  rw [encOut c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t)]
  congr 1
  funext x
  exact encScr c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (iblk0 V c 0 t) (iblk0 V c 1 t) (iblk0 V c 2 t) (iblk0 V c 3 t) (iblk0 V c 4 t) x

/-- The encoder over whole arrays. -/
def encArr (X : Vec Ideal S16x12544x16 .f32) (w1 : Vec Ideal S16x64 .f32) (b1 : Vec Ideal S1x64 .f32) (w2 : Vec Ideal S16x64x32 .f32) (b2 : Vec Ideal S1x32 .f32) :
    Vec Ideal S16x3136x32 .f32 := fun i =>
  conv2 (hid (fun y => X (ix3 ⟨(i 0 : ℕ), (i 0).2⟩ ⟨(y 1 : ℕ), (y 1).2⟩ ⟨(y 2 : ℕ), (y 2).2⟩)) w1 b1) w2 b2 (ix3 0 ⟨(i 1 : ℕ), (i 1).2⟩ ⟨(i 2 : ℕ), (i 2).2⟩)

theorem whole0_1 (c : Dev nD) (t : Fin cfg0.N) : iblk0 V c 1 t = V c main_v38 := by blk_ext! [iblk0, idx0 t]

theorem whole0_2 (c : Dev nD) (t : Fin cfg0.N) : iblk0 V c 2 t = V c main_v41 := by blk_ext! [iblk0, idx0 t]

theorem whole0_3 (c : Dev nD) (t : Fin cfg0.N) : iblk0 V c 3 t = V c main_v40 := by blk_ext! [iblk0, idx0 t]

theorem whole0_4 (c : Dev nD) (t : Fin cfg0.N) : iblk0 V c 4 t = V c main_v42 := by blk_ext! [iblk0, idx0 t]

/-- The point's block of the first operand. -/
theorem block0X (c : Dev nD) (t : Fin cfg0.N) (y : S1x3136x32.Idx) :
    (iblk0 V c 0 t : Vec Ideal S1x12544x16 .f32) = fun x : S1x12544x16.Idx => (V c main_v35 : Vec Ideal S16x12544x16 .f32) (ix3 ⟨((((cfg0.win 5).blk t).view.emb y) 0 : ℕ), ((((cfg0.win 5).blk t).view.emb y) 0).2⟩ ⟨(x 1 : ℕ), (x 1).2⟩ ⟨(x 2 : ℕ), (x 2).2⟩) := by
  funext x
  blk_point [iblk0, idx0 t]

/-- The point's block of the result. -/
theorem block0Y (t : Fin cfg0.N) (y : S1x3136x32.Idx) :
    y = ix3 0 ⟨((((cfg0.win 5).blk t).view.emb y) 1 : ℕ), ((((cfg0.win 5).blk t).view.emb y) 1).2⟩
      ⟨((((cfg0.win 5).blk t).view.emb y) 2 : ℕ), ((((cfg0.win 5).blk t).view.emb y) 2).2⟩ := by
  blk_ext [idx0 t]

/-- The result array after the run. -/
theorem final0 (c : Dev nD) : (dat0 V c).arrAt 5 cfg0.N
    = encArr (V c main_v35) (V c main_v38) (V c main_v41) (V c main_v40) (V c main_v42) := by
  refine (dat0 V c).arrAt_eq_of_covers 5 _ (by decide +kernel) fun t _ y => ?_
  blk_simp
  rw [after0_5]
  refine (outs0_at V c t y).trans ?_
  unfold encArr
  refine Eq.trans ?_ (congrArg₂ (fun X y => conv2 (hid X (V c main_v38) (V c main_v41)) (V c main_v40) (V c main_v42) y) (block0X V c t y) (block0Y t y))
  rw [whole0_1, whole0_2, whole0_3, whole0_4]

end Cert.KernelIdeal.Val
end
-- ==== Proof.Val.EncEq.lean ====
/- The encoder call is the two convolutions. -/
module

public import proofs.«01_k».proof.Proof.Val.EncScr
public import proofs.«01_k».proof.Proof.Val.EncOut
public import proofs.«01_k».proof.Proof.Val.KEnc
public import proofs.«01_k».proof.Proof.Val.Spec
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Spec

/-- A kernel's two taps are four rows of four. -/
theorem taps (f : Fin 16 → EReal) : ∑ l : Fin 16, f l = ∑ k : Fin 4, ∑ l : Fin 4, f ⟨k * 4 + l, by omega⟩ :=
  (Fin.sum_mul_add_fin 4 4 f).symm

variable (X : Vec Ideal S16x12544x16 .f32) (w1 : Vec Ideal S16x64 .f32) (b1 : Vec Ideal S1x64 .f32) (w2 : Vec Ideal S16x64x32 .f32) (b2 : Vec Ideal S1x32 .f32)
  (x : Fin 16 → Fin 224 → Fin 224 → EReal) (W1 : (⟨4, ![64, 1, 4, 4]⟩ : Shape).Idx → EReal) (B1 : (⟨1, ![64]⟩ : Shape).Idx → EReal)
  (W2 : (⟨4, ![32, 64, 4, 4]⟩ : Shape).Idx → EReal) (B2 : (⟨1, ![32]⟩ : Shape).Idx → EReal)

/-- The first layer, kept with a border of zeros, is the bordered first convolution. -/
theorem hid_border
    (hX : ∀ (b : Fin 16) (i j : Fin 112) (k l : Fin 4), X (ix3 b ⟨i * 112 + j, by omega⟩ ⟨k * 4 + l, by omega⟩) = border (x b) (2 * i + k) (2 * j + l))
    (h1 : ∀ (k l : Fin 4) (o : Fin 64), w1 (ix2 ⟨k * 4 + l, by omega⟩ o) = W1 (ix4 o 0 k l))
    (hb : ∀ o : Fin 64, b1 (ix2 0 o) = B1 (ix1 o)) (n : Fin 16) (u v : Fin 114) (k : Fin 64) :
    hid (fun y => X (ix3 n ⟨(y 1 : ℕ), (y 1).2⟩ ⟨(y 2 : ℕ), (y 2).2⟩)) w1 b1 (ix3 u v k)
      = border (fun i j : Fin 112 => max (conv W1 B1 (fun _ : Fin 1 => x n) k i j) 0) u v := by
  unfold hid border
  by_cases h : (1 ≤ (u : ℕ) ∧ (u : ℕ) ≤ 112) ∧ 1 ≤ (v : ℕ) ∧ (v : ℕ) ≤ 112
  · rw [dif_pos h]
    refine (dif_pos h).trans ?_
    refine congrArg (fun s => max s 0) ?_
    unfold conv
    refine congrArg₂ (fun p q : EReal => p + q) ?_ (hb k)
    rw [taps, Fin.sum_univ_one]
    refine Finset.sum_congr rfl fun a _ => Finset.sum_congr rfl fun c _ => ?_
    refine (mul_comm _ _).trans ?_
    refine congrArg₂ (fun p q : EReal => p * q) (h1 a c k) ?_
    refine Eq.trans ?_ (hX n ⟨u - 1, by omega⟩ ⟨v - 1, by omega⟩ a c)
    refine congrArg X ?_
    refine congrArg (fun i => ix3 n i ⟨a * 4 + c, by omega⟩) (Fin.ext ?_)
    show 112 * ((u : ℕ) - 1) + ((v : ℕ) - 1) = ((u : ℕ) - 1) * 112 + ((v : ℕ) - 1)
    omega
  · rw [dif_neg h]
    exact dif_neg h

/-- A convolution with its channels innermost. -/
theorem conv_taps {O C n m : ℕ} (w : (⟨4, ![O, C, 4, 4]⟩ : Shape).Idx → EReal) (b : (⟨1, ![O]⟩ : Shape).Idx → EReal)
    (f : Fin C → Fin n → Fin n → EReal) (o : Fin O) (i j : Fin m) :
    (∑ k : Fin 4, ∑ l : Fin 4, ∑ c : Fin C, w (ix4 o c k l) * border (f c) (2 * i + k) (2 * j + l)) + b (ix1 o) = conv w b f o i j := by
  unfold conv
  refine congrArg (· + _) (Eq.symm ?_)
  rw [Finset.sum_comm]
  exact Finset.sum_congr rfl fun k _ => Finset.sum_comm

/-- The encoder's array is the two convolutions. -/
theorem enc_eq
    (hX : ∀ (b : Fin 16) (i j : Fin 112) (k l : Fin 4), X (ix3 b ⟨i * 112 + j, by omega⟩ ⟨k * 4 + l, by omega⟩) = border (x b) (2 * i + k) (2 * j + l))
    (h1 : ∀ (k l : Fin 4) (o : Fin 64), w1 (ix2 ⟨k * 4 + l, by omega⟩ o) = W1 (ix4 o 0 k l))
    (hb : ∀ o : Fin 64, b1 (ix2 0 o) = B1 (ix1 o))
    (h2 : ∀ (k l : Fin 4) (c : Fin 64) (o : Fin 32), w2 (ix3 ⟨4 * k + l, by omega⟩ c o) = W2 (ix4 o c k l))
    (hb2 : ∀ o : Fin 32, b2 (ix2 0 o) = B2 (ix1 o)) (n : Fin 16) (i : Fin 3136) (o : Fin 32) :
    encArr X w1 b1 w2 b2 (ix3 n i o)
      = conv W2 B2 (fun c (u v : Fin 112) => max (conv W1 B1 (fun _ : Fin 1 => x n) c u v) 0) o ⟨i / 56, by omega⟩ (⟨i % 56, by omega⟩ : Fin 56) := by
  rw [← conv_taps]
  unfold encArr conv2
  refine congrArg₂ (fun p q : EReal => p + q) ?_ (hb2 o)
  refine Finset.sum_congr rfl fun k _ => Finset.sum_congr rfl fun l _ => Finset.sum_congr rfl fun c _ => ?_
  refine (mul_comm _ _).trans ?_
  exact congrArg₂ (fun p q : EReal => p * q) (h2 k l c o) (hid_border X w1 b1 x W1 B1 hX h1 hb n ⟨2 * (i / 56) + k, by omega⟩ ⟨2 * (i % 56) + l, by omega⟩ c)

end Cert.KernelIdeal.Val
end
-- ==== Proof.Val.KRows.lean ====
/- The rows that the quantiser call reads. -/
module

public import proofs.«01_k».proof.Proof.Fr.IdealRun
public import proofs.«01_k».proof.Proof.Val.KHost
public import proofs.«01_k».proof.Proof.Val.KVq
public import proofs.«01_k».proof.Proof.Val.KEnc
public import proofs.«01_k».proof.Proof.Val.EncEq
public import proofs.«01_k».proof.Proof.Val.RefStage
public import Idealize.ShloMosaic.Lib.StableHlo.RunRead
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.ShloMosaic.StableHlo
open Cert.KernelIdeal Cert.KernelIdeal.Gen Cert.KernelIdeal.Fr Cert.Spec

variable [Cert.ReferenceIdeal.Facts] (m : (ℓ : Loc nD τ sig) → Buf (Elt Ideal) ℓ) (ρ : Dev nD → PrngReg) (c : Dev nD)

/-- The encoder's output as the reference computes it from the kernel's arguments. -/
def zK : FVec Ideal Cert.ReferenceIdeal.S16x32x56x56 .f32 :=
  Cert.ReferenceIdeal.Stage.enc2 (Cert.ReferenceIdeal.Stage.relu (Cert.ReferenceIdeal.Stage.enc1 (m ((c : Thread nD τ).loc main_arg0)) (m ((c : Thread nD τ).loc main_arg1)) (m ((c : Thread nD τ).loc main_arg2))))
    (m ((c : Thread nD τ).loc main_arg3)) (m ((c : Thread nD τ).loc main_arg4))

/-- The encoder call's array. -/
theorem enc_at (n : Fin 16) (i : Fin 3136) (o : Fin 32) :
    (W4 m ρ c (Proc.devRef .tc main_v43) : Vec Ideal S16x3136x32 .f32) (ix3 n i o) = zK m c (ix4 n o ⟨i / 56, by omega⟩ ⟨i % 56, by omega⟩) := by
  refine (congrFun (W4_arr m ρ c 5) (ix3 n i o)).trans ?_
  rw [final0]
  refine (enc_eq _ _ _ _ _ (fun b p q => (m ((c : Thread nD τ).loc main_arg0) : Vec Ideal S16x1x224x224 .f32) (ix4 b 0 p q))
    (m ((c : Thread nD τ).loc main_arg1)) (m ((c : Thread nD τ).loc main_arg2)) (m ((c : Thread nD τ).loc main_arg3)) (m ((c : Thread nD τ).loc main_arg4))
    ?_ ?_ ?_ ?_ ?_ n i o).trans ?_
  · intro b i j k l
    exact (host_v35 (W2 m ρ c) b i j k l).trans (host_v1 (W0 m ρ c) b _ _)
  · intro k l o
    refine (host_v38 (W2 m ρ c) ⟨k * 4 + l, by omega⟩ o).trans ?_
    rw [W2_args m ρ c main_arg1 (by decide)]
    refine congrArg₂ (fun r s => (m ((c : Thread nD τ).loc main_arg1) : Vec Ideal S64x1x4x4 .f32) (ix4 o 0 r s)) (Fin.ext ?_) (Fin.ext ?_)
    · dsimp only; omega
    · dsimp only; omega
  · intro o
    refine (host_v41 (W2 m ρ c) o).trans ?_
    rw [W2_args m ρ c main_arg2 (by decide)]
  · intro k l a o
    refine (host_v40 (W2 m ρ c) ⟨4 * k + l, by omega⟩ a o).trans ?_
    rw [W2_args m ρ c main_arg3 (by decide)]
    refine congrArg₂ (fun r s => (m ((c : Thread nD τ).loc main_arg3) : Vec Ideal S32x64x4x4 .f32) (ix4 o a r s)) (Fin.ext ?_) (Fin.ext ?_)
    · dsimp only; omega
    · dsimp only; omega
  · intro o
    refine (host_v42 (W2 m ρ c) o).trans ?_
    rw [W2_args m ρ c main_arg4 (by decide)]
  · unfold zK
    refine Eq.symm ((Cert.ReferenceIdeal.Stage.enc2_apply _ _ _ n o _ _).trans ?_)
    refine congrArg (fun f => conv _ _ f o _ _) (funext fun a => funext fun u => funext fun v => ?_)
    rw [Cert.ReferenceIdeal.Stage.relu_apply, Cert.ReferenceIdeal.Stage.enc1_apply]
    refine congrArg (fun f => max (conv _ _ f a u v) 0) (funext fun b => ?_)
    obtain rfl : b = 0 := Subsingleton.elim _ _
    rfl

/-- The quantiser's rows. -/
theorem rows_at (i : Fin 50176) (k : Fin 32) :
    (V5 m ρ c main_v44 : Vec Ideal S50176x32 .f32) (ix2 i k) = zK m c (ix4 ⟨i / 3136, by omega⟩ k ⟨i / 56 % 56, by omega⟩ ⟨i % 56, by omega⟩) := by
  have h : (V5 m ρ c main_v44 : Vec Ideal S50176x32 .f32) = shapeCast S50176x32 (W4 m ρ c (Proc.devRef .tc main_v43) : Vec Ideal S16x3136x32 .f32) Gen.shapeCasts_S16x3136x32_S50176x32 := by
    show after (hostOps1 (F := Ideal)) (W4 m ρ c) (Proc.devRef .tc main_v44) = _
    generalize W4 m ρ c = W
    dsimp only [hostOps1]; after_reads_simp
    rfl
  have h2 : ∀ f : Vec Ideal S16x3136x32 .f32, shapeCast S50176x32 f Gen.shapeCasts_S16x3136x32_S50176x32 (ix2 i k) = f (ix3 ⟨i / 3136, by omega⟩ ⟨i % 3136, by omega⟩ k) := by
    intro f
    pointwise []
  rw [h, h2, enc_at]
  refine congrArg₂ (fun r s => zK m c (ix4 ⟨i / 3136, by omega⟩ k r s)) (Fin.ext ?_) (Fin.ext ?_)
  · dsimp only; omega
  · dsimp only; omega

end Cert.KernelIdeal.Val
end
-- ==== Proof.Val.Loss.lean ====
/- The scaled sum of squares is the reference's loss. -/
module

public import proofs.«01_k».proof.Proof.Val.Spec
public import Idealize.ShloMosaic.Lib.Pipeline.ValueKit

@[expose] public section

noncomputable section

namespace Cert.Spec

open Idealize.ShloMosaic Idealize.ShloMosaic.Tactic

theorem word_count : Ideal.ofBits .f32 1237581824#32 = ((1605632 : ℝ) : EReal) := by
  simp [Ideal.ofBits, Ideal.ieee, -EReal.coe_mul]; norm_num

theorem word_quarter : Ideal.ofBits .f32 1048576000#32 = ((1 / 4 : ℝ) : EReal) := by
  simp [Ideal.ofBits, Ideal.ieee, -EReal.coe_mul]; norm_num

/-- The mean and a quarter of it are the sum times one constant. -/
theorem scale_eq (s : EReal) (hs : 0 ≤ s) : s * ((5 / 6422528 : ℝ) : EReal)
    = Ideal.div s (Ideal.ofBits .f32 1237581824#32) + Ideal.ofBits .f32 1048576000#32 * Ideal.div s (Ideal.ofBits .f32 1237581824#32) := by
  rw [word_count, word_quarter]
  have hd : ∀ x : EReal, Ideal.div x ((1605632 : ℝ) : EReal) = x * ((1605632⁻¹ : ℝ) : EReal) := fun x => by
    unfold Ideal.div
    rw [if_neg (by exact_mod_cast (by norm_num : (1605632 : ℝ) ≠ 0)), ← EReal.coe_inv]
  rw [hd]
  induction s using EReal.rec with
  | bot => exact absurd hs (by simp)
  | top =>
    rw [EReal.top_mul_coe_of_pos (by norm_num), EReal.top_mul_coe_of_pos (by norm_num), EReal.coe_mul_top_of_pos (by norm_num), EReal.top_add_top]
  | coe x =>
    rw [← EReal.coe_mul, ← EReal.coe_mul, ← EReal.coe_mul, ← EReal.coe_add]
    congr 1
    ring

/-- A square isn't negative. -/
theorem sq_nonneg' (x : EReal) : 0 ≤ x * x := by
  induction x using EReal.rec with
  | bot => simp
  | top => simp
  | coe x => rw [← EReal.coe_mul]; exact_mod_cast mul_self_nonneg x

/-- The rows of the blocks are the rows. -/
theorem blocks_sum (g : Fin 50176 → EReal) : (∑ s ∈ Finset.range 98, if h : s < 98 then ∑ r : Fin 512, g ⟨s * 512 + r.val, by omega⟩ else 0) = ∑ i, g i := by
  rw [Finset.sum_range]
  refine Eq.trans ?_ (Fin.sum_mul_add_fin 98 512 g)
  exact Finset.sum_congr rfl fun s _ => dif_pos s.isLt

/-- The rows are the images' points. -/
theorem rows_sum (g : Fin 50176 → EReal) :
    ∑ n : Fin 16, ∑ i : Fin 56, ∑ j : Fin 56, g ⟨n * 3136 + i * 56 + j, by omega⟩ = ∑ i, g i := by
  refine Eq.trans ?_ (Fin.sum_mul_add_fin 16 3136 g)
  refine Finset.sum_congr rfl fun n _ => ?_
  refine Eq.trans ?_ (Fin.sum_mul_add_fin 56 56 fun l : Fin 3136 => g ⟨n * 3136 + l, by omega⟩)
  refine Finset.sum_congr rfl fun i _ => Finset.sum_congr rfl fun j _ => congrArg g (Fin.ext ?_)
  show (n : ℕ) * 3136 + i * 56 + j = n * 3136 + (i * 56 + j)
  omega

end Cert.Spec
end
-- ==== Proof.Val.Close.lean ====
/- The kernel's indices and loss are the reference's. -/
module

public import proofs.«01_k».proof.Proof.Val.KVq
public import proofs.«01_k».proof.Proof.Val.KEnc
public import proofs.«01_k».proof.Proof.Val.EncEq
public import proofs.«01_k».proof.Proof.Val.Loss
public import proofs.«01_k».proof.Proof.Val.RefVq
public import proofs.«01_k».proof.Proof.Val.RefStage
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.KernelIdeal.Fr Cert.Spec

variable [Cert.ReferenceIdeal.Facts]

/-- The reference's words are the places of the rows. -/
theorem words_places (z : FVec Ideal Cert.ReferenceIdeal.S16x32x56x56 .f32) (C : FVec Ideal Cert.ReferenceIdeal.S1024x32 .f32) (i : Fin 50176) :
    IsFirst (fun j => sqdist (fun k => z (ix4 ⟨i / 3136, by omega⟩ k ⟨i / 56 % 56, by omega⟩ ⟨i % 56, by omega⟩)) C j)
      (Cert.ReferenceIdeal.Stage.words (Cert.ReferenceIdeal.Stage.dists (Cert.ReferenceIdeal.Stage.rows z) C) (ix1 i)) := by
  have h := Cert.ReferenceIdeal.Stage.words_first (Cert.ReferenceIdeal.Stage.dists (Cert.ReferenceIdeal.Stage.rows z) C) i
  simp only [Cert.ReferenceIdeal.Stage.dists_apply, Cert.ReferenceIdeal.Stage.rows_apply] at h
  exact h

variable (Z : Vec Ideal S50176x32 .f32) (C : Vec Ideal S1024x32 .f32) (z : FVec Ideal Cert.ReferenceIdeal.S16x32x56x56 .f32)
  (w : IVec Cert.ReferenceIdeal.S50176 32)

/-- A row's squared error is the image point's. -/
theorem err_at (n : Fin 16) (i j : Fin 56) (hZ : ∀ k : Fin 32, Z (ix2 ⟨n * 3136 + i * 56 + j, by omega⟩ k) = z (ix4 n k i j)) :
    err (fun i => w (ix1 i)) Z C ⟨n * 3136 + i * 56 + j, by omega⟩
      = ∑ k : Fin 32, (Cert.ReferenceIdeal.Stage.quant w C (ix4 n k i j) - z (ix4 n k i j)) * (Cert.ReferenceIdeal.Stage.quant w C (ix4 n k i j) - z (ix4 n k i j)) := by
  unfold err
  refine Finset.sum_congr rfl fun k _ => ?_
  rw [hZ k, Cert.ReferenceIdeal.Stage.quant_apply w C n k i j]

/-- The rows' squared errors are the reference's. -/
theorem errs_eq (hZ : ∀ (n : Fin 16) (i j : Fin 56) (k : Fin 32), Z (ix2 ⟨n * 3136 + i * 56 + j, by omega⟩ k) = z (ix4 n k i j)) :
    (∑ s ∈ Finset.range 98, errAt (fun i => w (ix1 i)) Z C s) = Cert.ReferenceIdeal.Stage.sqsum (Cert.ReferenceIdeal.Stage.quant w C) z := by
  refine (blocks_sum (err (fun i => w (ix1 i)) Z C)).trans ((rows_sum _).symm.trans ?_)
  unfold Cert.ReferenceIdeal.Stage.sqsum
  refine Finset.sum_congr rfl fun n _ => ?_
  refine Eq.trans ?_ Finset.sum_comm
  refine Finset.sum_congr rfl fun i _ => ?_
  refine Eq.trans ?_ Finset.sum_comm
  exact Finset.sum_congr rfl fun j _ => err_at Z C z w n i j (hZ n i j)

/-- Squared errors aren't negative. -/
theorem errs_nonneg (v : Fin 50176 → BitVec 32) : 0 ≤ ∑ s ∈ Finset.range 98, errAt v Z C s := by
  refine Finset.sum_nonneg fun s _ => ?_
  unfold errAt
  split
  · refine Finset.sum_nonneg fun r _ => ?_
    unfold err
    exact Finset.sum_nonneg fun k _ => sq_nonneg' _
  · exact le_refl _

/-- The sum over blocks, scaled, is the loss. -/
theorem loss_eq (hZ : ∀ (n : Fin 16) (i j : Fin 56) (k : Fin 32), Z (ix2 ⟨n * 3136 + i * 56 + j, by omega⟩ k) = z (ix4 n k i j)) (y : Cert.ReferenceIdeal.S_.Idx) :
    (∑ s ∈ Finset.range 98, errAt (fun i => w (ix1 i)) Z C s) * ((5 / 6422528 : ℝ) : EReal)
      = Cert.ReferenceIdeal.Stage.loss (Cert.ReferenceIdeal.Stage.quant w C) z y := by
  rw [Cert.ReferenceIdeal.Stage.loss_apply]
  refine (scale_eq _ (errs_nonneg Z C _)).trans ?_
  rw [errs_eq Z C z w hZ]

end Cert.KernelIdeal.Val
end
-- ==== Proof.Val.KRes.lean ====
/- The kernel's two results. -/
module

public import proofs.«01_k».proof.Proof.Val.KRows
public import proofs.«01_k».proof.Proof.Val.Close
public import Idealize.ShloMosaic.Lib.StableHlo.RunRead
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic Idealize.ShloMosaic.StableHlo
open Cert.KernelIdeal Cert.KernelIdeal.Gen Cert.KernelIdeal.Fr Cert.Spec

variable [Cert.ReferenceIdeal.Facts] (m : (ℓ : Loc nD τ sig) → Buf (Elt Ideal) ℓ) (ρ : Dev nD → PrngReg) (c : Dev nD)

/-- The nearest codewords as the reference computes them from the kernel's arguments. -/
def wK : IVec Cert.ReferenceIdeal.S50176 32 :=
  Cert.ReferenceIdeal.Stage.words (Cert.ReferenceIdeal.Stage.dists (Cert.ReferenceIdeal.Stage.rows (zK m c)) (m ((c : Thread nD τ).loc main_arg5)))

theorem book : V5 m ρ c main_arg5 = m ((c : Thread nD τ).loc main_arg5) := W5_args m ρ c main_arg5 (by decide)

/-- The kernel's places are the reference's. -/
theorem places : Places (V5 m ρ) c (fun i => wK m c (ix1 i)) := by
  intro i
  have h := words_places (zK m c) (m ((c : Thread nD τ).loc main_arg5)) i
  refine cast (congrArg (fun D => IsFirst D (wK m c (ix1 i))) (funext fun j => ?_)) h
  exact congrArg₂ (fun r C => sqdist r C j) (funext fun k => (rows_at m ρ c i k).symm) (book m ρ c).symm

/-- The blocks' places as images. -/
theorem blocks_image (f : Vec Ideal S98x1x512 .i32) (n : Fin 16) (i j : Fin 56) :
    shapeCast S16x56x56 f Gen.shapeCasts_S98x1x512_S16x56x56 (ix3 n i j)
      = f (ix3 ⟨(n * 3136 + i * 56 + j) / 512, by omega⟩ 0 ⟨(n * 3136 + i * 56 + j) % 512, by omega⟩) := by
  pointwise []

/-- The rows' places as images. -/
theorem rows_image (w : IVec Cert.ReferenceIdeal.S50176 32) (n : Fin 16) (i j : Fin 56) :
    shapeCast Cert.ReferenceIdeal.S16x56x56 w Cert.ReferenceIdeal.Facts₀.shapeCasts_S50176_S16x56x56 (ix3 n i j) = w (ix1 ⟨n * 3136 + i * 56 + j, by omega⟩) := by
  pointwise []

/-- The two layouts of the places are one. -/
theorem idx_cast (w : IVec Cert.ReferenceIdeal.S50176 32) :
    shapeCast S16x56x56 (idxArr fun i => w (ix1 i)) Gen.shapeCasts_S98x1x512_S16x56x56
      = shapeCast Cert.ReferenceIdeal.S16x56x56 w Cert.ReferenceIdeal.Facts₀.shapeCasts_S50176_S16x56x56 := by
  funext y
  obtain ⟨n, i, j, rfl⟩ : ∃ (n : Fin 16) (i j : Fin 56), y = ix3 n i j := ⟨y 0, y 1, y 2, by
    funext a
    match a with
    | ⟨0, _⟩ => rfl
    | ⟨1, _⟩ => rfl
    | ⟨2, _⟩ => rfl⟩
  refine (blocks_image _ n i j).trans (Eq.trans ?_ (rows_image w n i j).symm)
  unfold idxArr
  exact congrArg (fun i => w (ix1 i)) (Fin.ext (Nat.div_add_mod' _ _))

theorem ix4_congr {a a' : Fin 16} {b b' d d' : Fin 56} (k : Fin 32) (ha : a = a') (hb : b = b') (hd : d = d') : ix4 a k b d = ix4 a' k b' d' := by
  subst ha hb hd; rfl

/-- The indices. -/
theorem res46 : W11 m ρ c (Proc.devRef .tc main_v46)
    = shapeCast Cert.ReferenceIdeal.S16x56x56 (wK m c) Cert.ReferenceIdeal.Facts₀.shapeCasts_S50176_S16x56x56 := by
  rw [W11_of m ρ c main_v46 (by decide), W10_of m ρ c main_v46 (by decide), W9_of m ρ c main_v46 (by decide), W8_of m ρ c main_v46 (by decide)]
  have h : W7 m ρ c (Proc.devRef .tc main_v46) = shapeCast S16x56x56 (W6 m ρ c (Proc.devRef .tc main_v45_1) : Vec Ideal S98x1x512 .i32) Gen.shapeCasts_S98x1x512_S16x56x56 := by
    show after (hostOps2 (F := Ideal)) (W6 m ρ c) (Proc.devRef .tc main_v46) = _
    generalize W6 m ρ c = W
    dsimp only [hostOps2]; after_reads_simp
    rfl
  have h6 : (W6 m ρ c (Proc.devRef .tc main_v45_1) : Vec Ideal S98x1x512 .i32) = idxArr fun i => wK m c (ix1 i) :=
    (W6_arr m ρ c 3).trans (final1_3 (places m ρ c))
  rw [h, h6]
  exact idx_cast (wK m c)

/-- The loss. -/
theorem res48 : W11 m ρ c (Proc.devRef .tc main_v48)
    = Cert.ReferenceIdeal.Stage.loss (Cert.ReferenceIdeal.Stage.quant (wK m c) (m ((c : Thread nD τ).loc main_arg5))) (zK m c) := by
  rw [W11_of m ρ c main_v48 (by decide), W10_of m ρ c main_v48 (by decide), W9_of m ρ c main_v48 (by decide), W8_of m ρ c main_v48 (by decide)]
  have h : W7 m ρ c (Proc.devRef .tc main_v48) = shapeCast S_ (shapeCast S_ (W6 m ρ c (Proc.devRef .tc main_v45_2) : Vec Ideal S1x1 .f32) Gen.shapeCasts_S1x1_S_) Gen.shapeCasts_S_S_ := by
    show after (hostOps2 (F := Ideal)) (W6 m ρ c) (Proc.devRef .tc main_v48) = _
    generalize W6 m ρ c = W
    dsimp only [hostOps2]; after_reads_simp
    rfl
  have h6 : (W6 m ρ c (Proc.devRef .tc main_v45_2) : Vec Ideal S1x1 .f32) = _ :=
    (W6_arr m ρ c 4).trans (final1_4 (places m ρ c))
  rw [h, h6]
  funext y
  rw [← loss_eq (V5 m ρ c main_v44) (m ((c : Thread nD τ).loc main_arg5)) (zK m c) (wK m c) ?_ y, ← book m ρ c]
  · rfl
  · intro n i j k
    rw [rows_at]
    have e1 : ((n : ℕ) * 3136 + i * 56 + j) / 3136 = n := by omega
    have e2 : ((n : ℕ) * 3136 + i * 56 + j) / 56 % 56 = i := by omega
    have e3 : ((n : ℕ) * 3136 + i * 56 + j) % 56 = j := by omega
    exact congrArg (zK m c) (ix4_congr k (Fin.ext e1) (Fin.ext e2) (Fin.ext e3))

end Cert.KernelIdeal.Val
end
-- ==== Proof.lean ====
module

public import proofs.«01_k».proof.Defs
public import proofs.«01_k».proof.Proof.Fr.IdealRun
public import proofs.«01_k».proof.Proof.Fr.BitsRun
public import proofs.«01_k».proof.Proof.RefLine
public import proofs.«01_k».proof.Proof.Val.RefRead
public import proofs.«01_k».proof.Proof.Val.KRes
public import Idealize.ShloMosaic.Adequacy
public import Idealize.ShloMosaic.Init

@[expose] public section

noncomputable section

namespace Cert.Proof

open Idealize.ShloMosaic Idealize.SL.Sem Cert.Kernel

/-- Every run of the reference ends with its arguments unchanged and every semaphore at zero. -/
theorem ref_frame [Cert.ReferenceIdeal.Facts] (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0) :=
  (θ_run _ _ _).mono (fun r h => ⟨fun c =>
    have e : ∀ a ∈ Cert.ReferenceIdeal.Line.argRefs, r.2.mem ((c.tc : Thread Cert.ReferenceIdeal.nD Cert.ReferenceIdeal.τ).loc a) = m ((c.tc : Thread Cert.ReferenceIdeal.nD Cert.ReferenceIdeal.τ).loc a) :=
      fun a ha => (h.1 c a).trans (Cert.ReferenceIdeal.Line.after_arg c ha _)
    ⟨e _ (by simp), e _ (by simp), e _ (by simp), e _ (by simp), e _ (by simp), e _ (by simp), e _ (by simp), e _ (by simp), e _ (by simp), e _ (by simp)⟩, h.2⟩) (Cert.ReferenceIdeal.Line.run m g)

/-- The reference's encoder output from the arguments it reads. -/
theorem zR_of [Cert.ReferenceIdeal.Facts] (V : Valuation Cert.ReferenceIdeal.τ Cert.ReferenceIdeal.sig (Elt Ideal)) {x : FVec Ideal Cert.ReferenceIdeal.S16x1x224x224 .f32} {w1 : FVec Ideal Cert.ReferenceIdeal.S64x1x4x4 .f32}
    {b1 : FVec Ideal Cert.ReferenceIdeal.S64 .f32} {w2 : FVec Ideal Cert.ReferenceIdeal.S32x64x4x4 .f32} {b2 : FVec Ideal Cert.ReferenceIdeal.S32 .f32}
    (e0 : V (Proc.devRef .tc Cert.ReferenceIdeal.main_arg0) = x) (e1 : V (Proc.devRef .tc Cert.ReferenceIdeal.main_arg1) = w1)
    (e2 : V (Proc.devRef .tc Cert.ReferenceIdeal.main_arg2) = b1) (e3 : V (Proc.devRef .tc Cert.ReferenceIdeal.main_arg3) = w2)
    (e4 : V (Proc.devRef .tc Cert.ReferenceIdeal.main_arg4) = b2) :
    Cert.ReferenceIdeal.Line.zR V = Cert.ReferenceIdeal.Stage.enc2 (Cert.ReferenceIdeal.Stage.relu (Cert.ReferenceIdeal.Stage.enc1 x w1 b1)) w2 b2 := by
  unfold Cert.ReferenceIdeal.Line.zR
  rw [e0, e1, e2, e3, e4]

/-- The reference's nearest codewords from its encoder output and the codebook. -/
theorem wR_of [Cert.ReferenceIdeal.Facts] (V : Valuation Cert.ReferenceIdeal.τ Cert.ReferenceIdeal.sig (Elt Ideal)) {z : FVec Ideal Cert.ReferenceIdeal.S16x32x56x56 .f32} {C : FVec Ideal Cert.ReferenceIdeal.S1024x32 .f32}
    (ez : Cert.ReferenceIdeal.Line.zR V = z) (e5 : V (Proc.devRef .tc Cert.ReferenceIdeal.main_arg5) = C) :
    Cert.ReferenceIdeal.Line.wR V = Cert.ReferenceIdeal.Stage.words (Cert.ReferenceIdeal.Stage.dists (Cert.ReferenceIdeal.Stage.rows z) C) := by
  unfold Cert.ReferenceIdeal.Line.wR
  rw [ez, e5]

/-- The reference's quantised output from its codewords and the codebook. -/
theorem qR_of [Cert.ReferenceIdeal.Facts] (V : Valuation Cert.ReferenceIdeal.τ Cert.ReferenceIdeal.sig (Elt Ideal)) {w : IVec Cert.ReferenceIdeal.S50176 32} {C : FVec Ideal Cert.ReferenceIdeal.S1024x32 .f32}
    (ew : Cert.ReferenceIdeal.Line.wR V = w) (e5 : V (Proc.devRef .tc Cert.ReferenceIdeal.main_arg5) = C) :
    Cert.ReferenceIdeal.Line.qR V = Cert.ReferenceIdeal.Stage.quant w C := by
  unfold Cert.ReferenceIdeal.Line.qR
  rw [ew, e5]

/-- From equal arguments the two programs leave the same loss and the same indices. -/
theorem same [Cert.ReferenceIdeal.Facts] : Cert.algebraic_KernelIdeal_ReferenceIdeal (hKernelIdeal := Cert.KernelIdeal.Gen.facts) := by
  intro m g m' g' _ ha
  refine ⟨fun c => Cert.KernelIdeal.Fr.W11 m g c (Proc.devRef .tc Cert.KernelIdeal.main_v48), fun c => Cert.KernelIdeal.Fr.W11 m g c (Proc.devRef .tc Cert.KernelIdeal.main_v46),
    (θ_run _ _ _).mono (fun r h c => (h c).2) (Cert.KernelIdeal.Fr.results m g),
    (θ_run _ _ _).mono (fun r h c => ?_) (Cert.ReferenceIdeal.Line.run m' g')⟩
  obtain ⟨a0, a1, a2, a3, a4, a5, -⟩ := ha c
  have ez : Cert.ReferenceIdeal.Line.zR (StableHlo.launchContents m' c) = Cert.KernelIdeal.Val.zK m c := zR_of _ a0 a1 a2 a3 a4
  have ew : Cert.ReferenceIdeal.Line.wR (StableHlo.launchContents m' c) = Cert.KernelIdeal.Val.wK m c := wR_of _ ez a5
  have eq := qR_of (StableHlo.launchContents m' c) ew a5
  have e : ∀ a ∈ Cert.ReferenceIdeal.Line.argRefs, r.2.mem ((c.tc : Thread Cert.ReferenceIdeal.nD Cert.ReferenceIdeal.τ).loc a) = m' ((c.tc : Thread Cert.ReferenceIdeal.nD Cert.ReferenceIdeal.τ).loc a) :=
    fun a ha => (h.1 c a).trans (Cert.ReferenceIdeal.Line.after_arg c ha _)
  refine ⟨?_, ?_, e _ (by simp), e _ (by simp), e _ (by simp), e _ (by simp), e _ (by simp), e _ (by simp), e _ (by simp), e _ (by simp), e _ (by simp), e _ (by simp)⟩
  · refine (h.1 c _).trans ((Cert.ReferenceIdeal.Line.read_v55 _).trans ?_)
    rw [eq, ez]
    exact (Cert.KernelIdeal.Val.res48 m g c).symm
  · refine (h.1 c _).trans ((Cert.ReferenceIdeal.Line.read_v56 _).trans ?_)
    rw [ew]
    exact (Cert.KernelIdeal.Val.res46 m g c).symm

theorem claim : Cert.Claim := ⟨Cert.Kernel.Gen.facts, Cert.KernelIdeal.Gen.facts, Cert.ReferenceIdeal.Gen.facts,
  fun m g _ => Cert.Kernel.Fr.frame m g,
  fun m g _ => Cert.KernelIdeal.Fr.frame m g,
  fun m g _ => ref_frame m g,
  IdealRules.named_const.statement Cert.KernelIdeal.κ "loss_scale" .f32 0x3550FAC7#32 _ rfl,
  @same Cert.ReferenceIdeal.Gen.facts⟩

end Cert.Proof

end
